-- ==== Defs.lean ====
def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_AmaxDy (m : (ℓ : Loc Cert.AmaxDy.nD Cert.AmaxDy.τ Cert.AmaxDy.sig) → Buf (Elt Bits) ℓ) : Prop :=
  True

def Pre_AmaxDyIdeal (m : (ℓ : Loc Cert.AmaxDyIdeal.nD Cert.AmaxDyIdeal.τ Cert.AmaxDyIdeal.sig) → Buf (Elt Ideal) ℓ) : Prop :=
  True

def Pre_AmaxDyRefIdeal (m : (ℓ : Loc Cert.AmaxDyRefIdeal.nD Cert.AmaxDyRefIdeal.τ Cert.AmaxDyRefIdeal.sig) → Buf (Elt Ideal) ℓ) : Prop :=
  True

def Pre_Dq (m : (ℓ : Loc Cert.Dq.nD Cert.Dq.τ Cert.Dq.sig) → Buf (Elt Bits) ℓ) : Prop :=
  True

def Pre_DqRef (m : (ℓ : Loc Cert.DqRef.nD Cert.DqRef.τ Cert.DqRef.sig) → Buf (Elt Bits) ℓ) : Prop :=
  True

def Pre_AmaxX (m : (ℓ : Loc Cert.AmaxX.nD Cert.AmaxX.τ Cert.AmaxX.sig) → Buf (Elt Bits) ℓ) : Prop :=
  True

def Pre_AmaxXIdeal (m : (ℓ : Loc Cert.AmaxXIdeal.nD Cert.AmaxXIdeal.τ Cert.AmaxXIdeal.sig) → Buf (Elt Ideal) ℓ) : Prop :=
  True

def Pre_AmaxXRefIdeal (m : (ℓ : Loc Cert.AmaxXRefIdeal.nD Cert.AmaxXRefIdeal.τ Cert.AmaxXRefIdeal.sig) → Buf (Elt Ideal) ℓ) : Prop :=
  True

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1)
      ∧ r.2.mem ((c.tc : Thread Cert.Product.nD Cert.Product.τ).loc Cert.Product.main_arg2) = m ((c.tc : Thread Cert.Product.nD Cert.Product.τ).loc Cert.Product.main_arg2)
      ∧ r.2.mem ((c.tc : Thread Cert.Product.nD Cert.Product.τ).loc Cert.Product.main_arg3) = m ((c.tc : Thread Cert.Product.nD Cert.Product.τ).loc Cert.Product.main_arg3))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1)
      ∧ r.2.mem ((c.tc : Thread Cert.ProductRefIdeal.nD Cert.ProductRefIdeal.τ).loc Cert.ProductRefIdeal.main_arg2) = m ((c.tc : Thread Cert.ProductRefIdeal.nD Cert.ProductRefIdeal.τ).loc Cert.ProductRefIdeal.main_arg2)
      ∧ r.2.mem ((c.tc : Thread Cert.ProductRefIdeal.nD Cert.ProductRefIdeal.τ).loc Cert.ProductRefIdeal.main_arg3) = m ((c.tc : Thread Cert.ProductRefIdeal.nD Cert.ProductRefIdeal.τ).loc Cert.ProductRefIdeal.main_arg3))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2)
      ∧ r.2.mem ((c.tc : Thread Cert.Xq.nD Cert.Xq.τ).loc Cert.Xq.main_arg3) = m ((c.tc : Thread Cert.Xq.nD Cert.Xq.τ).loc Cert.Xq.main_arg3))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
      ∧ r.2.mem ((c.tc : Thread Cert.XqIdeal.nD Cert.XqIdeal.τ).loc Cert.XqIdeal.main_arg3) = m ((c.tc : Thread Cert.XqIdeal.nD Cert.XqIdeal.τ).loc Cert.XqIdeal.main_arg3))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2)
      ∧ r.2.mem ((c.tc : Thread Cert.XqRefIdeal.nD Cert.XqRefIdeal.τ).loc Cert.XqRefIdeal.main_arg3) = m ((c.tc : Thread Cert.XqRefIdeal.nD Cert.XqRefIdeal.τ).loc Cert.XqRefIdeal.main_arg3))
      ∧ r.2.sem = fun _ => 0)

def quiescent_AmaxDy [hAmaxDy : Cert.AmaxDy.Facts] : Prop :=
  ∀ (m : (ℓ : Loc Cert.AmaxDy.nD Cert.AmaxDy.τ Cert.AmaxDy.sig) → Buf (Elt Bits) ℓ) (g : Dev Cert.AmaxDy.nD → PrngReg), Pre_AmaxDy m →
    θ_run (Cert.AmaxDy.defs (F := Bits)) (onTc (τ := Cert.AmaxDy.τ) (Cert.AmaxDy.main (F := Bits))) ⟨m, fun _ => 0, g⟩ (fun r => (∀ c : Dev Cert.AmaxDy.nD,
      r.2.mem ((c.tc : Thread Cert.AmaxDy.nD Cert.AmaxDy.τ).loc Cert.AmaxDy.main_arg0) = m ((c.tc : Thread Cert.AmaxDy.nD Cert.AmaxDy.τ).loc Cert.AmaxDy.main_arg0)
      ∧ r.2.mem ((c.tc : Thread Cert.AmaxDy.nD Cert.AmaxDy.τ).loc Cert.AmaxDy.main_arg1) = m ((c.tc : Thread Cert.AmaxDy.nD Cert.AmaxDy.τ).loc Cert.AmaxDy.main_arg1))
      ∧ r.2.sem = fun _ => 0)

def quiescent_AmaxDyIdeal [hAmaxDyIdeal : Cert.AmaxDyIdeal.Facts] : Prop :=
  ∀ (m : (ℓ : Loc Cert.AmaxDyIdeal.nD Cert.AmaxDyIdeal.τ Cert.AmaxDyIdeal.sig) → Buf (Elt Ideal) ℓ) (g : Dev Cert.AmaxDyIdeal.nD → PrngReg), Pre_AmaxDyIdeal m →
    θ_run (Cert.AmaxDyIdeal.defs (F := Ideal)) (onTc (τ := Cert.AmaxDyIdeal.τ) (Cert.AmaxDyIdeal.main (F := Ideal))) ⟨m, fun _ => 0, g⟩ (fun r => (∀ c : Dev Cert.AmaxDyIdeal.nD,
      r.2.mem ((c.tc : Thread Cert.AmaxDyIdeal.nD Cert.AmaxDyIdeal.τ).loc Cert.AmaxDyIdeal.main_arg0) = m ((c.tc : Thread Cert.AmaxDyIdeal.nD Cert.AmaxDyIdeal.τ).loc Cert.AmaxDyIdeal.main_arg0)
      ∧ r.2.mem ((c.tc : Thread Cert.AmaxDyIdeal.nD Cert.AmaxDyIdeal.τ).loc Cert.AmaxDyIdeal.main_arg1) = m ((c.tc : Thread Cert.AmaxDyIdeal.nD Cert.AmaxDyIdeal.τ).loc Cert.AmaxDyIdeal.main_arg1))
      ∧ r.2.sem = fun _ => 0)

def quiescent_AmaxDyRefIdeal [hAmaxDyRefIdeal : Cert.AmaxDyRefIdeal.Facts] : Prop :=
  ∀ (m : (ℓ : Loc Cert.AmaxDyRefIdeal.nD Cert.AmaxDyRefIdeal.τ Cert.AmaxDyRefIdeal.sig) → Buf (Elt Ideal) ℓ) (g : Dev Cert.AmaxDyRefIdeal.nD → PrngReg), Pre_AmaxDyRefIdeal m →
    θ_run (Cert.AmaxDyRefIdeal.defs (F := Ideal)) (onTc (τ := Cert.AmaxDyRefIdeal.τ) (Cert.AmaxDyRefIdeal.main (F := Ideal))) ⟨m, fun _ => 0, g⟩ (fun r => (∀ c : Dev Cert.AmaxDyRefIdeal.nD,
      r.2.mem ((c.tc : Thread Cert.AmaxDyRefIdeal.nD Cert.AmaxDyRefIdeal.τ).loc Cert.AmaxDyRefIdeal.main_arg0) = m ((c.tc : Thread Cert.AmaxDyRefIdeal.nD Cert.AmaxDyRefIdeal.τ).loc Cert.AmaxDyRefIdeal.main_arg0)
      ∧ r.2.mem ((c.tc : Thread Cert.AmaxDyRefIdeal.nD Cert.AmaxDyRefIdeal.τ).loc Cert.AmaxDyRefIdeal.main_arg1) = m ((c.tc : Thread Cert.AmaxDyRefIdeal.nD Cert.AmaxDyRefIdeal.τ).loc Cert.AmaxDyRefIdeal.main_arg1))
      ∧ r.2.sem = fun _ => 0)

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1)
      ∧ r.2.mem ((c.tc : Thread Cert.Dq.nD Cert.Dq.τ).loc Cert.Dq.main_arg2) = m ((c.tc : Thread Cert.Dq.nD Cert.Dq.τ).loc Cert.Dq.main_arg2)
      ∧ r.2.mem ((c.tc : Thread Cert.Dq.nD Cert.Dq.τ).loc Cert.Dq.main_arg3) = m ((c.tc : Thread Cert.Dq.nD Cert.Dq.τ).loc Cert.Dq.main_arg3)
      ∧ r.2.mem ((c.tc : Thread Cert.Dq.nD Cert.Dq.τ).loc Cert.Dq.main_arg4) = m ((c.tc : Thread Cert.Dq.nD Cert.Dq.τ).loc Cert.Dq.main_arg4))
      ∧ r.2.sem = fun _ => 0)

def quiescent_DqRef [hDqRef : Cert.DqRef.Facts] : Prop :=
  ∀ (m : (ℓ : Loc Cert.DqRef.nD Cert.DqRef.τ Cert.DqRef.sig) → Buf (Elt Bits) ℓ) (g : Dev Cert.DqRef.nD → PrngReg), Pre_DqRef m →
    θ_run (Cert.DqRef.defs (F := Bits)) (onTc (τ := Cert.DqRef.τ) (Cert.DqRef.main (F := Bits))) ⟨m, fun _ => 0, g⟩ (fun r => (∀ c : Dev Cert.DqRef.nD,
      r.2.mem ((c.tc : Thread Cert.DqRef.nD Cert.DqRef.τ).loc Cert.DqRef.main_arg0) = m ((c.tc : Thread Cert.DqRef.nD Cert.DqRef.τ).loc Cert.DqRef.main_arg0)
      ∧ r.2.mem ((c.tc : Thread Cert.DqRef.nD Cert.DqRef.τ).loc Cert.DqRef.main_arg1) = m ((c.tc : Thread Cert.DqRef.nD Cert.DqRef.τ).loc Cert.DqRef.main_arg1)
      ∧ r.2.mem ((c.tc : Thread Cert.DqRef.nD Cert.DqRef.τ).loc Cert.DqRef.main_arg2) = m ((c.tc : Thread Cert.DqRef.nD Cert.DqRef.τ).loc Cert.DqRef.main_arg2)
      ∧ r.2.mem ((c.tc : Thread Cert.DqRef.nD Cert.DqRef.τ).loc Cert.DqRef.main_arg3) = m ((c.tc : Thread Cert.DqRef.nD Cert.DqRef.τ).loc Cert.DqRef.main_arg3)
      ∧ r.2.mem ((c.tc : Thread Cert.DqRef.nD Cert.DqRef.τ).loc Cert.DqRef.main_arg4) = m ((c.tc : Thread Cert.DqRef.nD Cert.DqRef.τ).loc Cert.DqRef.main_arg4))
      ∧ r.2.sem = fun _ => 0)

def quiescent_AmaxX [hAmaxX : Cert.AmaxX.Facts] : Prop :=
  ∀ (m : (ℓ : Loc Cert.AmaxX.nD Cert.AmaxX.τ Cert.AmaxX.sig) → Buf (Elt Bits) ℓ) (g : Dev Cert.AmaxX.nD → PrngReg), Pre_AmaxX m →
    θ_run (Cert.AmaxX.defs (F := Bits)) (onTc (τ := Cert.AmaxX.τ) (Cert.AmaxX.main (F := Bits))) ⟨m, fun _ => 0, g⟩ (fun r => (∀ c : Dev Cert.AmaxX.nD,
      r.2.mem ((c.tc : Thread Cert.AmaxX.nD Cert.AmaxX.τ).loc Cert.AmaxX.main_arg0) = m ((c.tc : Thread Cert.AmaxX.nD Cert.AmaxX.τ).loc Cert.AmaxX.main_arg0)
      ∧ r.2.mem ((c.tc : Thread Cert.AmaxX.nD Cert.AmaxX.τ).loc Cert.AmaxX.main_arg1) = m ((c.tc : Thread Cert.AmaxX.nD Cert.AmaxX.τ).loc Cert.AmaxX.main_arg1))
      ∧ r.2.sem = fun _ => 0)

def quiescent_AmaxXIdeal [hAmaxXIdeal : Cert.AmaxXIdeal.Facts] : Prop :=
  ∀ (m : (ℓ : Loc Cert.AmaxXIdeal.nD Cert.AmaxXIdeal.τ Cert.AmaxXIdeal.sig) → Buf (Elt Ideal) ℓ) (g : Dev Cert.AmaxXIdeal.nD → PrngReg), Pre_AmaxXIdeal m →
    θ_run (Cert.AmaxXIdeal.defs (F := Ideal)) (onTc (τ := Cert.AmaxXIdeal.τ) (Cert.AmaxXIdeal.main (F := Ideal))) ⟨m, fun _ => 0, g⟩ (fun r => (∀ c : Dev Cert.AmaxXIdeal.nD,
      r.2.mem ((c.tc : Thread Cert.AmaxXIdeal.nD Cert.AmaxXIdeal.τ).loc Cert.AmaxXIdeal.main_arg0) = m ((c.tc : Thread Cert.AmaxXIdeal.nD Cert.AmaxXIdeal.τ).loc Cert.AmaxXIdeal.main_arg0)
      ∧ r.2.mem ((c.tc : Thread Cert.AmaxXIdeal.nD Cert.AmaxXIdeal.τ).loc Cert.AmaxXIdeal.main_arg1) = m ((c.tc : Thread Cert.AmaxXIdeal.nD Cert.AmaxXIdeal.τ).loc Cert.AmaxXIdeal.main_arg1))
      ∧ r.2.sem = fun _ => 0)

def quiescent_AmaxXRefIdeal [hAmaxXRefIdeal : Cert.AmaxXRefIdeal.Facts] : Prop :=
  ∀ (m : (ℓ : Loc Cert.AmaxXRefIdeal.nD Cert.AmaxXRefIdeal.τ Cert.AmaxXRefIdeal.sig) → Buf (Elt Ideal) ℓ) (g : Dev Cert.AmaxXRefIdeal.nD → PrngReg), Pre_AmaxXRefIdeal m →
    θ_run (Cert.AmaxXRefIdeal.defs (F := Ideal)) (onTc (τ := Cert.AmaxXRefIdeal.τ) (Cert.AmaxXRefIdeal.main (F := Ideal))) ⟨m, fun _ => 0, g⟩ (fun r => (∀ c : Dev Cert.AmaxXRefIdeal.nD,
      r.2.mem ((c.tc : Thread Cert.AmaxXRefIdeal.nD Cert.AmaxXRefIdeal.τ).loc Cert.AmaxXRefIdeal.main_arg0) = m ((c.tc : Thread Cert.AmaxXRefIdeal.nD Cert.AmaxXRefIdeal.τ).loc Cert.AmaxXRefIdeal.main_arg0)
      ∧ r.2.mem ((c.tc : Thread Cert.AmaxXRefIdeal.nD Cert.AmaxXRefIdeal.τ).loc Cert.AmaxXRefIdeal.main_arg1) = m ((c.tc : Thread Cert.AmaxXRefIdeal.nD Cert.AmaxXRefIdeal.τ).loc Cert.AmaxXRefIdeal.main_arg1))
      ∧ r.2.sem = fun _ => 0)

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)
      ∧ m' ((c.tc : Thread Cert.ProductRefIdeal.nD Cert.ProductRefIdeal.τ).loc Cert.ProductRefIdeal.main_arg2) = m ((c.tc : Thread Cert.ProductIdeal.nD Cert.ProductIdeal.τ).loc Cert.ProductIdeal.main_arg2)
      ∧ m' ((c.tc : Thread Cert.ProductRefIdeal.nD Cert.ProductRefIdeal.τ).loc Cert.ProductRefIdeal.main_arg3) = m ((c.tc : Thread Cert.ProductIdeal.nD Cert.ProductIdeal.τ).loc Cert.ProductIdeal.main_arg3)) →
    ∃ (v0 : (c : Dev Cert.ProductIdeal.nD) → Buf (Elt Ideal) ((c.tc : Thread Cert.ProductIdeal.nD Cert.ProductIdeal.τ).loc Cert.ProductIdeal.main_v0)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v0) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
          ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
          ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v4) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1)
          ∧ r.2.mem ((c.tc : Thread Cert.ProductRefIdeal.nD Cert.ProductRefIdeal.τ).loc Cert.ProductRefIdeal.main_arg2) = m' ((c.tc : Thread Cert.ProductRefIdeal.nD Cert.ProductRefIdeal.τ).loc Cert.ProductRefIdeal.main_arg2)
          ∧ r.2.mem ((c.tc : Thread Cert.ProductRefIdeal.nD Cert.ProductRefIdeal.τ).loc Cert.ProductRefIdeal.main_arg3) = m' ((c.tc : Thread Cert.ProductRefIdeal.nD Cert.ProductRefIdeal.τ).loc Cert.ProductRefIdeal.main_arg3))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)
      ∧ m' ((c.tc : Thread Cert.XqRefIdeal.nD Cert.XqRefIdeal.τ).loc Cert.XqRefIdeal.main_arg2) = m ((c.tc : Thread Cert.XqIdeal.nD Cert.XqIdeal.τ).loc Cert.XqIdeal.main_arg2)
      ∧ m' ((c.tc : Thread Cert.XqRefIdeal.nD Cert.XqRefIdeal.τ).loc Cert.XqRefIdeal.main_arg3) = m ((c.tc : Thread Cert.XqIdeal.nD Cert.XqIdeal.τ).loc Cert.XqIdeal.main_arg3)) →
    ∃ (v0 : (c : Dev Cert.XqIdeal.nD) → Buf (Elt Ideal) ((c.tc : Thread Cert.XqIdeal.nD Cert.XqIdeal.τ).loc Cert.XqIdeal.main_v0_0)) (v1 : (c : Dev Cert.XqIdeal.nD) → Buf (Elt Ideal) ((c.tc : Thread Cert.XqIdeal.nD Cert.XqIdeal.τ).loc Cert.XqIdeal.main_v0_1)) (v2 : (c : Dev Cert.XqIdeal.nD) → Buf (Elt Ideal) ((c.tc : Thread Cert.XqIdeal.nD Cert.XqIdeal.τ).loc Cert.XqIdeal.main_v0_2)) (v3 : (c : Dev Cert.XqIdeal.nD) → Buf (Elt Ideal) ((c.tc : Thread Cert.XqIdeal.nD Cert.XqIdeal.τ).loc Cert.XqIdeal.main_v0_3)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0_0) = v0 c
          ∧ r.2.mem ((c.tc : Thread Cert.XqIdeal.nD Cert.XqIdeal.τ).loc Cert.XqIdeal.main_v0_1) = v1 c
          ∧ r.2.mem ((c.tc : Thread Cert.XqIdeal.nD Cert.XqIdeal.τ).loc Cert.XqIdeal.main_v0_2) = v2 c
          ∧ r.2.mem ((c.tc : Thread Cert.XqIdeal.nD Cert.XqIdeal.τ).loc Cert.XqIdeal.main_v0_3) = v3 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
          ∧ r.2.mem ((c.tc : Thread Cert.XqIdeal.nD Cert.XqIdeal.τ).loc Cert.XqIdeal.main_arg3) = m ((c.tc : Thread Cert.XqIdeal.nD Cert.XqIdeal.τ).loc Cert.XqIdeal.main_arg3))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v23_0) = v0 c
          ∧ r.2.mem ((c.tc : Thread Cert.XqRefIdeal.nD Cert.XqRefIdeal.τ).loc Cert.XqRefIdeal.main_v23_1) = v1 c
          ∧ r.2.mem ((c.tc : Thread Cert.XqRefIdeal.nD Cert.XqRefIdeal.τ).loc Cert.XqRefIdeal.main_v23_2) = v2 c
          ∧ r.2.mem ((c.tc : Thread Cert.XqRefIdeal.nD Cert.XqRefIdeal.τ).loc Cert.XqRefIdeal.main_v23_3) = v3 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1)
          ∧ r.2.mem ((c.tc : Thread Cert.XqRefIdeal.nD Cert.XqRefIdeal.τ).loc Cert.XqRefIdeal.main_arg2) = m' ((c.tc : Thread Cert.XqRefIdeal.nD Cert.XqRefIdeal.τ).loc Cert.XqRefIdeal.main_arg2)
          ∧ r.2.mem ((c.tc : Thread Cert.XqRefIdeal.nD Cert.XqRefIdeal.τ).loc Cert.XqRefIdeal.main_arg3) = m' ((c.tc : Thread Cert.XqRefIdeal.nD Cert.XqRefIdeal.τ).loc Cert.XqRefIdeal.main_arg3))

def preserves_AmaxDy_AmaxDyIdeal : Prop :=
  True

def algebraic_AmaxDyIdeal_AmaxDyRefIdeal [hAmaxDyIdeal : Cert.AmaxDyIdeal.Facts] [hAmaxDyRefIdeal : Cert.AmaxDyRefIdeal.Facts] : Prop :=
  ∀ (m : (ℓ : Loc Cert.AmaxDyIdeal.nD Cert.AmaxDyIdeal.τ Cert.AmaxDyIdeal.sig) → Buf (Elt Ideal) ℓ) (g : Dev Cert.AmaxDyIdeal.nD → PrngReg)
    (m' : (ℓ : Loc Cert.AmaxDyRefIdeal.nD Cert.AmaxDyRefIdeal.τ Cert.AmaxDyRefIdeal.sig) → Buf (Elt Ideal) ℓ) (g' : Dev Cert.AmaxDyRefIdeal.nD → PrngReg), Pre_AmaxDyIdeal m →
    (∀ c : Dev Cert.AmaxDyIdeal.nD,
      m' ((c.tc : Thread Cert.AmaxDyRefIdeal.nD Cert.AmaxDyRefIdeal.τ).loc Cert.AmaxDyRefIdeal.main_arg0) = m ((c.tc : Thread Cert.AmaxDyIdeal.nD Cert.AmaxDyIdeal.τ).loc Cert.AmaxDyIdeal.main_arg0)
      ∧ m' ((c.tc : Thread Cert.AmaxDyRefIdeal.nD Cert.AmaxDyRefIdeal.τ).loc Cert.AmaxDyRefIdeal.main_arg1) = m ((c.tc : Thread Cert.AmaxDyIdeal.nD Cert.AmaxDyIdeal.τ).loc Cert.AmaxDyIdeal.main_arg1)) →
    ∃ (v0 : (c : Dev Cert.AmaxDyIdeal.nD) → Buf (Elt Ideal) ((c.tc : Thread Cert.AmaxDyIdeal.nD Cert.AmaxDyIdeal.τ).loc Cert.AmaxDyIdeal.main_v0_0)) (v1 : (c : Dev Cert.AmaxDyIdeal.nD) → Buf (Elt Ideal) ((c.tc : Thread Cert.AmaxDyIdeal.nD Cert.AmaxDyIdeal.τ).loc Cert.AmaxDyIdeal.main_v0_1)),
      θ_run (Cert.AmaxDyIdeal.defs (F := Ideal)) (onTc (τ := Cert.AmaxDyIdeal.τ) (Cert.AmaxDyIdeal.main (F := Ideal))) ⟨m, fun _ => 0, g⟩ (fun r => ∀ c : Dev Cert.AmaxDyIdeal.nD,
          r.2.mem ((c.tc : Thread Cert.AmaxDyIdeal.nD Cert.AmaxDyIdeal.τ).loc Cert.AmaxDyIdeal.main_v0_0) = v0 c
          ∧ r.2.mem ((c.tc : Thread Cert.AmaxDyIdeal.nD Cert.AmaxDyIdeal.τ).loc Cert.AmaxDyIdeal.main_v0_1) = v1 c
          ∧ r.2.mem ((c.tc : Thread Cert.AmaxDyIdeal.nD Cert.AmaxDyIdeal.τ).loc Cert.AmaxDyIdeal.main_arg0) = m ((c.tc : Thread Cert.AmaxDyIdeal.nD Cert.AmaxDyIdeal.τ).loc Cert.AmaxDyIdeal.main_arg0)
          ∧ r.2.mem ((c.tc : Thread Cert.AmaxDyIdeal.nD Cert.AmaxDyIdeal.τ).loc Cert.AmaxDyIdeal.main_arg1) = m ((c.tc : Thread Cert.AmaxDyIdeal.nD Cert.AmaxDyIdeal.τ).loc Cert.AmaxDyIdeal.main_arg1))
      ∧ θ_run (Cert.AmaxDyRefIdeal.defs (F := Ideal)) (onTc (τ := Cert.AmaxDyRefIdeal.τ) (Cert.AmaxDyRefIdeal.main (F := Ideal))) ⟨m', fun _ => 0, g'⟩ (fun r => ∀ c : Dev Cert.AmaxDyRefIdeal.nD,
          r.2.mem ((c.tc : Thread Cert.AmaxDyRefIdeal.nD Cert.AmaxDyRefIdeal.τ).loc Cert.AmaxDyRefIdeal.main_v24) = v0 c
          ∧ r.2.mem ((c.tc : Thread Cert.AmaxDyRefIdeal.nD Cert.AmaxDyRefIdeal.τ).loc Cert.AmaxDyRefIdeal.main_v26) = v1 c
          ∧ r.2.mem ((c.tc : Thread Cert.AmaxDyRefIdeal.nD Cert.AmaxDyRefIdeal.τ).loc Cert.AmaxDyRefIdeal.main_arg0) = m' ((c.tc : Thread Cert.AmaxDyRefIdeal.nD Cert.AmaxDyRefIdeal.τ).loc Cert.AmaxDyRefIdeal.main_arg0)
          ∧ r.2.mem ((c.tc : Thread Cert.AmaxDyRefIdeal.nD Cert.AmaxDyRefIdeal.τ).loc Cert.AmaxDyRefIdeal.main_arg1) = m' ((c.tc : Thread Cert.AmaxDyRefIdeal.nD Cert.AmaxDyRefIdeal.τ).loc Cert.AmaxDyRefIdeal.main_arg1))

def bitexact_Dq_DqRef [hDq : Cert.Dq.Facts] [hDqRef : Cert.DqRef.Facts] : Prop :=
  ∀ (m : (ℓ : Loc Cert.Dq.nD Cert.Dq.τ Cert.Dq.sig) → Buf (Elt Bits) ℓ) (g : Dev Cert.Dq.nD → PrngReg)
    (m' : (ℓ : Loc Cert.DqRef.nD Cert.DqRef.τ Cert.DqRef.sig) → Buf (Elt Bits) ℓ) (g' : Dev Cert.DqRef.nD → PrngReg), Pre_Dq m →
    (∀ c : Dev Cert.Dq.nD,
      m' ((c.tc : Thread Cert.DqRef.nD Cert.DqRef.τ).loc Cert.DqRef.main_arg0) = m ((c.tc : Thread Cert.Dq.nD Cert.Dq.τ).loc Cert.Dq.main_arg0)
      ∧ m' ((c.tc : Thread Cert.DqRef.nD Cert.DqRef.τ).loc Cert.DqRef.main_arg1) = m ((c.tc : Thread Cert.Dq.nD Cert.Dq.τ).loc Cert.Dq.main_arg1)
      ∧ m' ((c.tc : Thread Cert.DqRef.nD Cert.DqRef.τ).loc Cert.DqRef.main_arg2) = m ((c.tc : Thread Cert.Dq.nD Cert.Dq.τ).loc Cert.Dq.main_arg2)
      ∧ m' ((c.tc : Thread Cert.DqRef.nD Cert.DqRef.τ).loc Cert.DqRef.main_arg3) = m ((c.tc : Thread Cert.Dq.nD Cert.Dq.τ).loc Cert.Dq.main_arg3)
      ∧ m' ((c.tc : Thread Cert.DqRef.nD Cert.DqRef.τ).loc Cert.DqRef.main_arg4) = m ((c.tc : Thread Cert.Dq.nD Cert.Dq.τ).loc Cert.Dq.main_arg4)) →
    ∃ (v0 : (c : Dev Cert.Dq.nD) → Buf (Elt Bits) ((c.tc : Thread Cert.Dq.nD Cert.Dq.τ).loc Cert.Dq.main_v0_1)) (v1 : (c : Dev Cert.Dq.nD) → Buf (Elt Bits) ((c.tc : Thread Cert.Dq.nD Cert.Dq.τ).loc Cert.Dq.main_v0_2)),
      θ_run (Cert.Dq.defs (F := Bits)) (onTc (τ := Cert.Dq.τ) (Cert.Dq.main (F := Bits))) ⟨m, fun _ => 0, g⟩ (fun r => ∀ c : Dev Cert.Dq.nD,
          r.2.mem ((c.tc : Thread Cert.Dq.nD Cert.Dq.τ).loc Cert.Dq.main_v0_1) = v0 c
          ∧ r.2.mem ((c.tc : Thread Cert.Dq.nD Cert.Dq.τ).loc Cert.Dq.main_v0_2) = v1 c
          ∧ r.2.mem ((c.tc : Thread Cert.Dq.nD Cert.Dq.τ).loc Cert.Dq.main_arg0) = m ((c.tc : Thread Cert.Dq.nD Cert.Dq.τ).loc Cert.Dq.main_arg0)
          ∧ r.2.mem ((c.tc : Thread Cert.Dq.nD Cert.Dq.τ).loc Cert.Dq.main_arg1) = m ((c.tc : Thread Cert.Dq.nD Cert.Dq.τ).loc Cert.Dq.main_arg1)
          ∧ r.2.mem ((c.tc : Thread Cert.Dq.nD Cert.Dq.τ).loc Cert.Dq.main_arg2) = m ((c.tc : Thread Cert.Dq.nD Cert.Dq.τ).loc Cert.Dq.main_arg2)
          ∧ r.2.mem ((c.tc : Thread Cert.Dq.nD Cert.Dq.τ).loc Cert.Dq.main_arg3) = m ((c.tc : Thread Cert.Dq.nD Cert.Dq.τ).loc Cert.Dq.main_arg3)
          ∧ r.2.mem ((c.tc : Thread Cert.Dq.nD Cert.Dq.τ).loc Cert.Dq.main_arg4) = m ((c.tc : Thread Cert.Dq.nD Cert.Dq.τ).loc Cert.Dq.main_arg4))
      ∧ θ_run (Cert.DqRef.defs (F := Bits)) (onTc (τ := Cert.DqRef.τ) (Cert.DqRef.main (F := Bits))) ⟨m', fun _ => 0, g'⟩ (fun r => ∀ c : Dev Cert.DqRef.nD,
          r.2.mem ((c.tc : Thread Cert.DqRef.nD Cert.DqRef.τ).loc Cert.DqRef.main_v0_0) = v0 c
          ∧ r.2.mem ((c.tc : Thread Cert.DqRef.nD Cert.DqRef.τ).loc Cert.DqRef.main_v0_1) = v1 c
          ∧ r.2.mem ((c.tc : Thread Cert.DqRef.nD Cert.DqRef.τ).loc Cert.DqRef.main_arg0) = m' ((c.tc : Thread Cert.DqRef.nD Cert.DqRef.τ).loc Cert.DqRef.main_arg0)
          ∧ r.2.mem ((c.tc : Thread Cert.DqRef.nD Cert.DqRef.τ).loc Cert.DqRef.main_arg1) = m' ((c.tc : Thread Cert.DqRef.nD Cert.DqRef.τ).loc Cert.DqRef.main_arg1)
          ∧ r.2.mem ((c.tc : Thread Cert.DqRef.nD Cert.DqRef.τ).loc Cert.DqRef.main_arg2) = m' ((c.tc : Thread Cert.DqRef.nD Cert.DqRef.τ).loc Cert.DqRef.main_arg2)
          ∧ r.2.mem ((c.tc : Thread Cert.DqRef.nD Cert.DqRef.τ).loc Cert.DqRef.main_arg3) = m' ((c.tc : Thread Cert.DqRef.nD Cert.DqRef.τ).loc Cert.DqRef.main_arg3)
          ∧ r.2.mem ((c.tc : Thread Cert.DqRef.nD Cert.DqRef.τ).loc Cert.DqRef.main_arg4) = m' ((c.tc : Thread Cert.DqRef.nD Cert.DqRef.τ).loc Cert.DqRef.main_arg4))

def preserves_AmaxX_AmaxXIdeal : Prop :=
  True

def algebraic_AmaxXIdeal_AmaxXRefIdeal [hAmaxXIdeal : Cert.AmaxXIdeal.Facts] [hAmaxXRefIdeal : Cert.AmaxXRefIdeal.Facts] : Prop :=
  ∀ (m : (ℓ : Loc Cert.AmaxXIdeal.nD Cert.AmaxXIdeal.τ Cert.AmaxXIdeal.sig) → Buf (Elt Ideal) ℓ) (g : Dev Cert.AmaxXIdeal.nD → PrngReg)
    (m' : (ℓ : Loc Cert.AmaxXRefIdeal.nD Cert.AmaxXRefIdeal.τ Cert.AmaxXRefIdeal.sig) → Buf (Elt Ideal) ℓ) (g' : Dev Cert.AmaxXRefIdeal.nD → PrngReg), Pre_AmaxXIdeal m →
    (∀ c : Dev Cert.AmaxXIdeal.nD,
      m' ((c.tc : Thread Cert.AmaxXRefIdeal.nD Cert.AmaxXRefIdeal.τ).loc Cert.AmaxXRefIdeal.main_arg0) = m ((c.tc : Thread Cert.AmaxXIdeal.nD Cert.AmaxXIdeal.τ).loc Cert.AmaxXIdeal.main_arg0)
      ∧ m' ((c.tc : Thread Cert.AmaxXRefIdeal.nD Cert.AmaxXRefIdeal.τ).loc Cert.AmaxXRefIdeal.main_arg1) = m ((c.tc : Thread Cert.AmaxXIdeal.nD Cert.AmaxXIdeal.τ).loc Cert.AmaxXIdeal.main_arg1)) →
    ∃ (v0 : (c : Dev Cert.AmaxXIdeal.nD) → Buf (Elt Ideal) ((c.tc : Thread Cert.AmaxXIdeal.nD Cert.AmaxXIdeal.τ).loc Cert.AmaxXIdeal.main_v0_0)) (v1 : (c : Dev Cert.AmaxXIdeal.nD) → Buf (Elt Ideal) ((c.tc : Thread Cert.AmaxXIdeal.nD Cert.AmaxXIdeal.τ).loc Cert.AmaxXIdeal.main_v0_1)),
      θ_run (Cert.AmaxXIdeal.defs (F := Ideal)) (onTc (τ := Cert.AmaxXIdeal.τ) (Cert.AmaxXIdeal.main (F := Ideal))) ⟨m, fun _ => 0, g⟩ (fun r => ∀ c : Dev Cert.AmaxXIdeal.nD,
          r.2.mem ((c.tc : Thread Cert.AmaxXIdeal.nD Cert.AmaxXIdeal.τ).loc Cert.AmaxXIdeal.main_v0_0) = v0 c
          ∧ r.2.mem ((c.tc : Thread Cert.AmaxXIdeal.nD Cert.AmaxXIdeal.τ).loc Cert.AmaxXIdeal.main_v0_1) = v1 c
          ∧ r.2.mem ((c.tc : Thread Cert.AmaxXIdeal.nD Cert.AmaxXIdeal.τ).loc Cert.AmaxXIdeal.main_arg0) = m ((c.tc : Thread Cert.AmaxXIdeal.nD Cert.AmaxXIdeal.τ).loc Cert.AmaxXIdeal.main_arg0)
          ∧ r.2.mem ((c.tc : Thread Cert.AmaxXIdeal.nD Cert.AmaxXIdeal.τ).loc Cert.AmaxXIdeal.main_arg1) = m ((c.tc : Thread Cert.AmaxXIdeal.nD Cert.AmaxXIdeal.τ).loc Cert.AmaxXIdeal.main_arg1))
      ∧ θ_run (Cert.AmaxXRefIdeal.defs (F := Ideal)) (onTc (τ := Cert.AmaxXRefIdeal.τ) (Cert.AmaxXRefIdeal.main (F := Ideal))) ⟨m', fun _ => 0, g'⟩ (fun r => ∀ c : Dev Cert.AmaxXRefIdeal.nD,
          r.2.mem ((c.tc : Thread Cert.AmaxXRefIdeal.nD Cert.AmaxXRefIdeal.τ).loc Cert.AmaxXRefIdeal.main_v24) = v0 c
          ∧ r.2.mem ((c.tc : Thread Cert.AmaxXRefIdeal.nD Cert.AmaxXRefIdeal.τ).loc Cert.AmaxXRefIdeal.main_v26) = v1 c
          ∧ r.2.mem ((c.tc : Thread Cert.AmaxXRefIdeal.nD Cert.AmaxXRefIdeal.τ).loc Cert.AmaxXRefIdeal.main_arg0) = m' ((c.tc : Thread Cert.AmaxXRefIdeal.nD Cert.AmaxXRefIdeal.τ).loc Cert.AmaxXRefIdeal.main_arg0)
          ∧ r.2.mem ((c.tc : Thread Cert.AmaxXRefIdeal.nD Cert.AmaxXRefIdeal.τ).loc Cert.AmaxXRefIdeal.main_arg1) = m' ((c.tc : Thread Cert.AmaxXRefIdeal.nD Cert.AmaxXRefIdeal.τ).loc Cert.AmaxXRefIdeal.main_arg1))

def Claim : Prop :=
  ∃ (hProduct : Cert.Product.Facts) (hProductIdeal : Cert.ProductIdeal.Facts) (hProductRefIdeal : Cert.ProductRefIdeal.Facts) (hXq : Cert.Xq.Facts) (hXqIdeal : Cert.XqIdeal.Facts) (hXqRefIdeal : Cert.XqRefIdeal.Facts) (hAmaxDy : Cert.AmaxDy.Facts) (hAmaxDyIdeal : Cert.AmaxDyIdeal.Facts) (hAmaxDyRefIdeal : Cert.AmaxDyRefIdeal.Facts) (hDq : Cert.Dq.Facts) (hDqRef : Cert.DqRef.Facts) (hAmaxX : Cert.AmaxX.Facts) (hAmaxXIdeal : Cert.AmaxXIdeal.Facts) (hAmaxXRefIdeal : Cert.AmaxXRefIdeal.Facts),
    quiescent_Product (hProduct := hProduct)
    ∧ quiescent_ProductIdeal (hProductIdeal := hProductIdeal)
    ∧ quiescent_ProductRefIdeal (hProductRefIdeal := hProductRefIdeal)
    ∧ quiescent_Xq (hXq := hXq)
    ∧ quiescent_XqIdeal (hXqIdeal := hXqIdeal)
    ∧ quiescent_XqRefIdeal (hXqRefIdeal := hXqRefIdeal)
    ∧ quiescent_AmaxDy (hAmaxDy := hAmaxDy)
    ∧ quiescent_AmaxDyIdeal (hAmaxDyIdeal := hAmaxDyIdeal)
    ∧ quiescent_AmaxDyRefIdeal (hAmaxDyRefIdeal := hAmaxDyRefIdeal)
    ∧ quiescent_Dq (hDq := hDq)
    ∧ quiescent_DqRef (hDqRef := hDqRef)
    ∧ quiescent_AmaxX (hAmaxX := hAmaxX)
    ∧ quiescent_AmaxXIdeal (hAmaxXIdeal := hAmaxXIdeal)
    ∧ quiescent_AmaxXRefIdeal (hAmaxXRefIdeal := hAmaxXRefIdeal)
    ∧ preserves_Product_ProductIdeal
    ∧ algebraic_ProductIdeal_ProductRefIdeal (hProductIdeal := hProductIdeal) (hProductRefIdeal := hProductRefIdeal)
    ∧ preserves_Xq_XqIdeal
    ∧ algebraic_XqIdeal_XqRefIdeal (hXqIdeal := hXqIdeal) (hXqRefIdeal := hXqRefIdeal)
    ∧ preserves_AmaxDy_AmaxDyIdeal
    ∧ algebraic_AmaxDyIdeal_AmaxDyRefIdeal (hAmaxDyIdeal := hAmaxDyIdeal) (hAmaxDyRefIdeal := hAmaxDyRefIdeal)
    ∧ bitexact_Dq_DqRef (hDq := hDq) (hDqRef := hDqRef)
    ∧ preserves_AmaxX_AmaxXIdeal
    ∧ algebraic_AmaxXIdeal_AmaxXRefIdeal (hAmaxXIdeal := hAmaxXIdeal) (hAmaxXRefIdeal := hAmaxXRefIdeal)
-- ==== Product.lean ====
abbrev S1 : Shape := ⟨1, ![1]⟩
abbrev S2880x3072 : Shape := ⟨2, ![2880, 3072]⟩
abbrev S3072x7680 : Shape := ⟨2, ![3072, 7680]⟩
abbrev S2880x7680 : Shape := ⟨2, ![2880, 7680]⟩
abbrev S3072x512 : Shape := ⟨2, ![3072, 512]⟩
abbrev S2880x512 : Shape := ⟨2, ![2880, 512]⟩

abbrev nBuf : Space → Nat
  | .hbm => 5
  | .vmem => 5
  | .smem => 2
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S2880x3072, .bf16⟩
  | .hbm, ⟨3, _⟩ => ⟨S3072x7680, .bf16⟩
  | .hbm, ⟨4, _⟩ => ⟨S2880x7680, .f32⟩
  | .local _ .vmem, ⟨0, _⟩ => ⟨S2880x3072, .bf16⟩
  | .local _ .vmem, ⟨1, _⟩ => ⟨S3072x512, .bf16⟩
  | .local _ .vmem, ⟨2, _⟩ => ⟨S3072x512, .bf16⟩
  | .local _ .vmem, ⟨3, _⟩ => ⟨S2880x512, .f32⟩
  | .local _ .vmem, ⟨4, _⟩ => ⟨S2880x512, .f32⟩
  | .local _ .smem, ⟨0, _⟩ => ⟨S1, .f32⟩
  | .local _ .smem, ⟨1, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![15], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2880x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2880x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProductRefIdeal.lean ====
abbrev S1 : Shape := ⟨1, ![1]⟩
abbrev S2880x3072 : Shape := ⟨2, ![2880, 3072]⟩
abbrev S3072x7680 : Shape := ⟨2, ![3072, 7680]⟩
abbrev S2880x7680 : Shape := ⟨2, ![2880, 7680]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S2880x3072, .bf16⟩
  | .hbm, ⟨3, _⟩ => ⟨S3072x7680, .bf16⟩
  | .hbm, ⟨4, _⟩ => ⟨S2880x7680, .f32⟩
  | .hbm, ⟨5, _⟩ => ⟨S1, .f32⟩
  | .hbm, ⟨6, _⟩ => ⟨S1x1, .f32⟩
  | .hbm, ⟨7, _⟩ => ⟨S2880x7680, .f32⟩
  | .hbm, ⟨8, _⟩ => ⟨S2880x7680, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Xq.lean ====
abbrev S16 : Shape := ⟨1, ![16]⟩
abbrev S1x1 : Shape := ⟨2, ![1, 1]⟩
abbrev S3072x2880 : Shape := ⟨2, ![3072, 2880]⟩
abbrev S192x2880 : Shape := ⟨2, ![192, 2880]⟩
abbrev S1536x2880 : Shape := ⟨2, ![1536, 2880]⟩
abbrev S1 : Shape := ⟨1, ![1]⟩
abbrev S2880x3072 : Shape := ⟨2, ![2880, 3072]⟩
abbrev S512x2880 : Shape := ⟨2, ![512, 2880]⟩
abbrev S32x2880 : Shape := ⟨2, ![32, 2880]⟩
abbrev S256x2880 : Shape := ⟨2, ![256, 2880]⟩
abbrev S2880x512 : Shape := ⟨2, ![2880, 512]⟩
abbrev S256x256 : Shape := ⟨2, ![256, 256]⟩
abbrev S16x2880 : Shape := ⟨2, ![16, 2880]⟩
abbrev S16x1x2880 : Shape := ⟨3, ![16, 1, 2880]⟩
abbrev S16x16x2880 : Shape := ⟨3, ![16, 16, 2880]⟩
abbrev S64x2880 : Shape := ⟨2, ![64, 2880]⟩
abbrev S128x2880 : Shape := ⟨2, ![128, 2880]⟩
abbrev S2880x256 : Shape := ⟨2, ![2880, 256]⟩

abbrev nBuf : Space → Nat
  | .hbm => 8
  | .vmem => 11
  | .smem => 3
  | _ => 0

abbrev bufTy : (tb : Table) → Fin (tcTables nBuf tb) → BufTy
  | .hbm, ⟨0, _⟩ => ⟨S16, .f32⟩
  | .hbm, ⟨1, _⟩ => ⟨S1x1, .f32⟩
  | .hbm, ⟨2, _⟩ => ⟨S3072x2880, .bf16⟩
  | .hbm, ⟨3, _⟩ => ⟨S192x2880, .f32⟩
  | .hbm, ⟨4, _⟩ => ⟨S1536x2880, .i8⟩
  | .hbm, ⟨5, _⟩ => ⟨S192x2880, .fp8e4m3⟩
  | .hbm, ⟨6, _⟩ => ⟨S1, .f32⟩
  | .hbm, ⟨7, _⟩ => ⟨S2880x3072, .bf16⟩
  | .local _ .vmem, ⟨0, _⟩ => ⟨S512x2880, .bf16⟩
  | .local _ .vmem, ⟨1, _⟩ => ⟨S512x2880, .bf16⟩
  | .local _ .vmem, ⟨2, _⟩ => ⟨S32x2880, .f32⟩
  | .local _ .vmem, ⟨3, _⟩ => ⟨S32x2880, .f32⟩
  | .local _ .vmem, ⟨4, _⟩ => ⟨S256x2880, .i8⟩
  | .local _ .vmem, ⟨5, _⟩ => ⟨S256x2880, .i8⟩
  | .local _ .vmem, ⟨6, _⟩ => ⟨S32x2880, .fp8e4m3⟩
  | .local _ .vmem, ⟨7, _⟩ => ⟨S32x2880, .fp8e4m3⟩
  | .local _ .vmem, ⟨8, _⟩ => ⟨S2880x512, .bf16⟩
  | .local _ .vmem, ⟨9, _⟩ => ⟨S2880x512, .bf16⟩
  | .local _ .vmem, ⟨10, _⟩ => ⟨S256x256, .bf16⟩
  | .local _ .smem, ⟨0, _⟩ => ⟨S16, .f32⟩
  | .local _ .smem, ⟨1, _⟩ => ⟨S1x1, .f32⟩
  | .local _ .smem, ⟨2, _⟩ => ⟨S1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2880 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2880 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2880 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2880 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2880x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== XqRefIdeal.lean ====
abbrev S16 : Shape := ⟨1, ![16]⟩
abbrev S1x1 : Shape := ⟨2, ![1, 1]⟩
abbrev S3072x2880 : Shape := ⟨2, ![3072, 2880]⟩
abbrev S192x2880 : Shape := ⟨2, ![192, 2880]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S192x16x2880 : Shape := ⟨3, ![192, 16, 2880]⟩
abbrev S192x2880x16 : Shape := ⟨3, ![192, 2880, 16]⟩
abbrev S1536x2880 : Shape := ⟨2, ![1536, 2880]⟩
abbrev S1 : Shape := ⟨1, ![1]⟩
abbrev S2880x3072 : Shape := ⟨2, ![2880, 3072]⟩
abbrev S192x1x2880 : Shape := ⟨3, ![192, 1, 2880]⟩
abbrev S1536x2x2880 : Shape := ⟨3, ![1536, 2, 2880]⟩
abbrev S1536x1x2880 : Shape := ⟨3, ![1536, 1, 2880]⟩

abbrev nBuf : Space → Nat
  | .hbm => 35
  | .vmem => 5
  | .smem => 2
  | _ => 0

abbrev bufTy : (tb : Table) → Fin (tcTables nBuf tb) → BufTy
  | .hbm, ⟨0, _⟩ => ⟨S16, .f32⟩
  | .hbm, ⟨1, _⟩ => ⟨S1x1, .f32⟩
  | .hbm, ⟨2, _⟩ => ⟨S3072x2880, .bf16⟩
  | .hbm, ⟨3, _⟩ => ⟨S192x2880, .f32⟩
  | .hbm, ⟨4, _⟩ => ⟨S16, .i32⟩
  | .hbm, ⟨5, _⟩ => ⟨S16x1, .i32⟩
  | .hbm, ⟨6, _⟩ => ⟨S1x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .f32⟩
  | .hbm, ⟨21, _⟩ => ⟨S1x16, .f32⟩
  | .hbm, ⟨22, _⟩ => ⟨S16x16, .f32⟩
  | .hbm, ⟨23, _⟩ => ⟨S16x16, .f32⟩
  | .hbm, ⟨24, _⟩ => ⟨S_, .f32⟩
  | .hbm, ⟨25, _⟩ => ⟨S16x16, .f32⟩
  | .hbm, ⟨26, _⟩ => ⟨S16x16, .f32⟩
  | .hbm, ⟨27, _⟩ => ⟨S3072x2880, .f32⟩
  | .hbm, ⟨28, _⟩ => ⟨S192x16x2880, .f32⟩
  | .hbm, ⟨29, _⟩ => ⟨S192x2880x16, .f32⟩
  | .hbm, ⟨30, _⟩ => ⟨S192x16x2880, .f32⟩
  | .hbm, ⟨31, _⟩ => ⟨S1536x2880, .i8⟩
  | .hbm, ⟨32, _⟩ => ⟨S192x2880, .fp8e4m3⟩
  | .hbm, ⟨33, _⟩ => ⟨S1, .f32⟩
  | .hbm, ⟨34, _⟩ => ⟨S2880x3072, .bf16⟩
  | .local _ .vmem, ⟨0, _⟩ => ⟨S192x16x2880, .f32⟩
  | .local _ .vmem, ⟨1, _⟩ => ⟨S192x2880, .f32⟩
  | .local _ .vmem, ⟨2, _⟩ => ⟨S1536x2880, .i8⟩
  | .local _ .vmem, ⟨3, _⟩ => ⟨S192x2880, .fp8e4m3⟩
  | .local _ .vmem, ⟨4, _⟩ => ⟨S2880x3072, .bf16⟩
  | .local _ .smem, ⟨0, _⟩ => ⟨S1x1, .f32⟩
  | .local _ .smem, ⟨1, _⟩ => ⟨S1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x16x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x2880 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x2880 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x2880 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2880x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AmaxDy.lean ====
abbrev S16 : Shape := ⟨1, ![16]⟩
abbrev S3072x7680 : Shape := ⟨2, ![3072, 7680]⟩
abbrev S192x7680 : Shape := ⟨2, ![192, 7680]⟩
abbrev S1x1 : Shape := ⟨2, ![1, 1]⟩
abbrev S3072x512 : Shape := ⟨2, ![3072, 512]⟩
abbrev S192x512 : Shape := ⟨2, ![192, 512]⟩
abbrev S256x256 : Shape := ⟨2, ![256, 256]⟩
abbrev S1 : Shape := ⟨1, ![1]⟩
abbrev S8x512 : Shape := ⟨2, ![8, 512]⟩
abbrev S256x512 : Shape := ⟨2, ![256, 512]⟩
abbrev S1x8x512 : Shape := ⟨3, ![1, 8, 512]⟩
abbrev S1x1x1 : Shape := ⟨3, ![1, 1, 1]⟩

abbrev nBuf : Space → Nat
  | .hbm => 4
  | .vmem => 5
  | .smem => 2
  | _ => 0

abbrev bufTy : (tb : Table) → Fin (tcTables nBuf tb) → BufTy
  | .hbm, ⟨0, _⟩ => ⟨S16, .f32⟩
  | .hbm, ⟨1, _⟩ => ⟨S3072x7680, .bf16⟩
  | .hbm, ⟨2, _⟩ => ⟨S192x7680, .f32⟩
  | .hbm, ⟨3, _⟩ => ⟨S1x1, .f32⟩
  | .local _ .vmem, ⟨0, _⟩ => ⟨S3072x512, .bf16⟩
  | .local _ .vmem, ⟨1, _⟩ => ⟨S3072x512, .bf16⟩
  | .local _ .vmem, ⟨2, _⟩ => ⟨S192x512, .f32⟩
  | .local _ .vmem, ⟨3, _⟩ => ⟨S192x512, .f32⟩
  | .local _ .vmem, ⟨4, _⟩ => ⟨S256x256, .bf16⟩
  | .local _ .smem, ⟨0, _⟩ => ⟨S16, .f32⟩
  | .local _ .smem, ⟨1, _⟩ => ⟨S1x1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![15], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AmaxDyRefIdeal.lean ====
abbrev S16 : Shape := ⟨1, ![16]⟩
abbrev S3072x7680 : Shape := ⟨2, ![3072, 7680]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S192x16x7680 : Shape := ⟨3, ![192, 16, 7680]⟩
abbrev S192x7680x16 : Shape := ⟨3, ![192, 7680, 16]⟩
abbrev S192x7680 : Shape := ⟨2, ![192, 7680]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16, .f32⟩
  | .hbm, ⟨1, _⟩ => ⟨S3072x7680, .bf16⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .f32⟩
  | .hbm, ⟨19, _⟩ => ⟨S1x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S3072x7680, .f32⟩
  | .hbm, ⟨26, _⟩ => ⟨S192x16x7680, .f32⟩
  | .hbm, ⟨27, _⟩ => ⟨S192x7680x16, .f32⟩
  | .hbm, ⟨28, _⟩ => ⟨S192x16x7680, .f32⟩
  | .hbm, ⟨29, _⟩ => ⟨S192x16x7680, .f32⟩
  | .hbm, ⟨30, _⟩ => ⟨S_, .f32⟩
  | .hbm, ⟨31, _⟩ => ⟨S192x7680, .f32⟩
  | .hbm, ⟨32, _⟩ => ⟨S_, .f32⟩
  | .hbm, ⟨33, _⟩ => ⟨S_, .f32⟩
  | .hbm, ⟨34, _⟩ => ⟨S1x1, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Dq.lean ====
abbrev S16 : Shape := ⟨1, ![16]⟩
abbrev S1x1 : Shape := ⟨2, ![1, 1]⟩
abbrev S3072x7680 : Shape := ⟨2, ![3072, 7680]⟩
abbrev S192x7680 : Shape := ⟨2, ![192, 7680]⟩
abbrev S1536x7680 : Shape := ⟨2, ![1536, 7680]⟩
abbrev S1 : Shape := ⟨1, ![1]⟩
abbrev S512x512 : Shape := ⟨2, ![512, 512]⟩
abbrev S32x512 : Shape := ⟨2, ![32, 512]⟩
abbrev S256x512 : Shape := ⟨2, ![256, 512]⟩
abbrev S80x128 : Shape := ⟨2, ![80, 128]⟩
abbrev S136x128 : Shape := ⟨2, ![136, 128]⟩
abbrev S4x32x128 : Shape := ⟨3, ![4, 32, 128]⟩
abbrev S32x128 : Shape := ⟨2, ![32, 128]⟩
abbrev S1x32x128 : Shape := ⟨3, ![1, 32, 128]⟩
abbrev S16x128 : Shape := ⟨2, ![16, 128]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩
abbrev S64x128 : Shape := ⟨2, ![64, 128]⟩

abbrev nBuf : Space → Nat
  | .hbm => 9
  | .vmem => 16
  | .smem => 3
  | _ => 0

abbrev bufTy : (tb : Table) → Fin (tcTables nBuf tb) → BufTy
  | .hbm, ⟨0, _⟩ => ⟨S16, .f32⟩
  | .hbm, ⟨1, _⟩ => ⟨S1x1, .f32⟩
  | .hbm, ⟨2, _⟩ => ⟨S3072x7680, .bf16⟩
  | .hbm, ⟨3, _⟩ => ⟨S3072x7680, .f32⟩
  | .hbm, ⟨4, _⟩ => ⟨S192x7680, .f32⟩
  | .hbm, ⟨5, _⟩ => ⟨S1536x7680, .i8⟩
  | .hbm, ⟨6, _⟩ => ⟨S192x7680, .fp8e4m3⟩
  | .hbm, ⟨7, _⟩ => ⟨S1, .f32⟩
  | .hbm, ⟨8, _⟩ => ⟨S3072x7680, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S32x512, .f32⟩
  | .local _ .vmem, ⟨5, _⟩ => ⟨S32x512, .f32⟩
  | .local _ .vmem, ⟨6, _⟩ => ⟨S256x512, .i8⟩
  | .local _ .vmem, ⟨7, _⟩ => ⟨S256x512, .i8⟩
  | .local _ .vmem, ⟨8, _⟩ => ⟨S32x512, .fp8e4m3⟩
  | .local _ .vmem, ⟨9, _⟩ => ⟨S32x512, .fp8e4m3⟩
  | .local _ .vmem, ⟨10, _⟩ => ⟨S512x512, .bf16⟩
  | .local _ .vmem, ⟨11, _⟩ => ⟨S512x512, .bf16⟩
  | .local _ .vmem, ⟨12, _⟩ => ⟨S80x128, .i32⟩
  | .local _ .vmem, ⟨13, _⟩ => ⟨S136x128, .f32⟩
  | .local _ .vmem, ⟨14, _⟩ => ⟨S4x32x128, .f32⟩
  | .local _ .vmem, ⟨15, _⟩ => ⟨S4x32x128, .i32⟩
  | .local _ .smem, ⟨0, _⟩ => ⟨S16, .f32⟩
  | .local _ .smem, ⟨1, _⟩ => ⟨S1x1, .f32⟩
  | .local _ .smem, ⟨2, _⟩ => ⟨S1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_stg7_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨2, ![15, 6], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DqRef.lean ====
abbrev S16 : Shape := ⟨1, ![16]⟩
abbrev S1x1 : Shape := ⟨2, ![1, 1]⟩
abbrev S3072x7680 : Shape := ⟨2, ![3072, 7680]⟩
abbrev S192x7680 : Shape := ⟨2, ![192, 7680]⟩
abbrev S1 : Shape := ⟨1, ![1]⟩

abbrev nBuf : Space → Nat
  | .hbm => 7
  | .vmem => 2
  | .smem => 2
  | _ => 0

abbrev bufTy : (tb : Table) → Fin (tcTables nBuf tb) → BufTy
  | .hbm, ⟨0, _⟩ => ⟨S16, .f32⟩
  | .hbm, ⟨1, _⟩ => ⟨S1x1, .f32⟩
  | .hbm, ⟨2, _⟩ => ⟨S3072x7680, .bf16⟩
  | .hbm, ⟨3, _⟩ => ⟨S3072x7680, .f32⟩
  | .hbm, ⟨4, _⟩ => ⟨S192x7680, .f32⟩
  | .hbm, ⟨5, _⟩ => ⟨S192x7680, .fp8e4m3⟩
  | .hbm, ⟨6, _⟩ => ⟨S1, .f32⟩
  | .local _ .vmem, ⟨0, _⟩ => ⟨S192x7680, .f32⟩
  | .local _ .vmem, ⟨1, _⟩ => ⟨S192x7680, .fp8e4m3⟩
  | .local _ .smem, ⟨0, _⟩ => ⟨S1x1, .f32⟩
  | .local _ .smem, ⟨1, _⟩ => ⟨S1, .f32⟩
  | _, _ => ⟨S16, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x7680 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AmaxX.lean ====
abbrev S16 : Shape := ⟨1, ![16]⟩
abbrev S3072x2880 : Shape := ⟨2, ![3072, 2880]⟩
abbrev S192x2880 : Shape := ⟨2, ![192, 2880]⟩
abbrev S1x1 : Shape := ⟨2, ![1, 1]⟩
abbrev S3072x256 : Shape := ⟨2, ![3072, 256]⟩
abbrev S192x256 : Shape := ⟨2, ![192, 256]⟩
abbrev S256x256 : Shape := ⟨2, ![256, 256]⟩
abbrev S1 : Shape := ⟨1, ![1]⟩
abbrev S8x256 : Shape := ⟨2, ![8, 256]⟩
abbrev S1x8x256 : Shape := ⟨3, ![1, 8, 256]⟩
abbrev S1x1x1 : Shape := ⟨3, ![1, 1, 1]⟩

abbrev nBuf : Space → Nat
  | .hbm => 4
  | .vmem => 5
  | .smem => 2
  | _ => 0

abbrev bufTy : (tb : Table) → Fin (tcTables nBuf tb) → BufTy
  | .hbm, ⟨0, _⟩ => ⟨S16, .f32⟩
  | .hbm, ⟨1, _⟩ => ⟨S3072x2880, .bf16⟩
  | .hbm, ⟨2, _⟩ => ⟨S192x2880, .f32⟩
  | .hbm, ⟨3, _⟩ => ⟨S1x1, .f32⟩
  | .local _ .vmem, ⟨0, _⟩ => ⟨S3072x256, .bf16⟩
  | .local _ .vmem, ⟨1, _⟩ => ⟨S3072x256, .bf16⟩
  | .local _ .vmem, ⟨2, _⟩ => ⟨S192x256, .f32⟩
  | .local _ .vmem, ⟨3, _⟩ => ⟨S192x256, .f32⟩
  | .local _ .vmem, ⟨4, _⟩ => ⟨S256x256, .bf16⟩
  | .local _ .smem, ⟨0, _⟩ => ⟨S16, .f32⟩
  | .local _ .smem, ⟨1, _⟩ => ⟨S1x1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AmaxXRefIdeal.lean ====
abbrev S16 : Shape := ⟨1, ![16]⟩
abbrev S3072x2880 : Shape := ⟨2, ![3072, 2880]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S192x16x2880 : Shape := ⟨3, ![192, 16, 2880]⟩
abbrev S192x2880x16 : Shape := ⟨3, ![192, 2880, 16]⟩
abbrev S192x2880 : Shape := ⟨2, ![192, 2880]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16, .f32⟩
  | .hbm, ⟨1, _⟩ => ⟨S3072x2880, .bf16⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .f32⟩
  | .hbm, ⟨19, _⟩ => ⟨S1x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S3072x2880, .f32⟩
  | .hbm, ⟨26, _⟩ => ⟨S192x16x2880, .f32⟩
  | .hbm, ⟨27, _⟩ => ⟨S192x2880x16, .f32⟩
  | .hbm, ⟨28, _⟩ => ⟨S192x16x2880, .f32⟩
  | .hbm, ⟨29, _⟩ => ⟨S192x16x2880, .f32⟩
  | .hbm, ⟨30, _⟩ => ⟨S_, .f32⟩
  | .hbm, ⟨31, _⟩ => ⟨S192x2880, .f32⟩
  | .hbm, ⟨32, _⟩ => ⟨S_, .f32⟩
  | .hbm, ⟨33, _⟩ => ⟨S_, .f32⟩
  | .hbm, ⟨34, _⟩ => ⟨S1x1, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Product.lean ====
/- THE PRODUCT. What the tiled matrix product leaves in its result array: at (i, j) the sum over the 3072 tokens of
   one operand's row i times the other's column j, times the product of the two global scales. -/
module

public import proofs.«01_k».proof.Proof.Gen.ProductIdeal.Value
public import proofs.«01_k».proof.Proof.Gen.ProductRefIdeal.Run
public import Idealize.ShloMosaic.Lib.Pipeline.ValueKit
public import Idealize.ShloMosaic.Lib.Pointwise

@[expose] public section

set_option maxRecDepth 16384

noncomputable section

namespace Cert.Proof.Product

open Cert.ProductIdeal Cert.ProductIdeal.Gen Idealize.ShloMosaic Idealize.ShloMosaic.TcCoe Idealize.SL.Sem

variable (m : (ℓ : Loc nD τ sig) → Buf (Elt Ideal) ℓ) (ρ : Dev nD → PrngReg)

/-- The product's entry at `i`: the contraction over the tokens times the product of the two scales. -/
def G (xs ds : FVec Ideal S1 .f32) (x : FVec Ideal S2880x3072 .bf16) (q : FVec Ideal S3072x7680 .bf16) : FVec Ideal S2880x7680 .f32 :=
  fun i => (∑ k : Fin 3072, x (ix2 (i 0) k) * q (ix2 k (i 1))) * (xs (ix1 0) * ds (ix1 0))

/-- Where the windows' blocks lie at a grid point: the right operand and the result move along their columns with the
    point, the rest stays. -/
theorem idx : ∀ t : Fin cfg0.N, win0_0.index t = ![0] ∧ win0_1.index t = ![0] ∧ win0_2.index t = ![0, 0]
    ∧ win0_3.index t = ![0, t.val] ∧ win0_4.index t = ![0, t.val] :=
  (by decide +kernel : ∀ t : Fin grid0.N, _)

/-- The result array after the run. -/
theorem arr (c : Dev nD) : (dats m 0 c).arrAt 4 cfg0.N =
    G (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  obtain ⟨e0, e1, e2, e3, e4⟩ := idx t
  blk_simp
  rw [after0_4]
  unfold outsAt0
  frame_out
  pointwise [k0_pay1, G]
  blk_point [iblk, V, e0, e1, e2, e3, e4]

/-- The reference's composed term at the same arrays. -/
theorem ref_eq (xs ds : FVec Ideal S1 .f32) (x : FVec Ideal S2880x3072 .bf16) (q : FVec Ideal S3072x7680 .bf16) :
    G xs ds x q = mulf (Host.dotGeneral Cert.ProductRefIdeal.dot_S2880x3072_S3072x7680_S2880x7680_1_0_0_1_n_n none x q)
      (broadcastInDim Cert.ProductRefIdeal.S2880x7680 ![0, 1] Cert.ProductRefIdeal.Facts₀.bcast_S1x1_S2880x7680_0_1
        (broadcastInDim Cert.ProductRefIdeal.S1x1 ![1] Cert.ProductRefIdeal.Facts₀.bcast_S1_S1x1_1 (mulf xs ds))) := by
  funext i
  pointwise [G]

end Cert.Proof.Product

end
-- ==== Proof.Pack.lean ====
/- THE PACKING. The kernel reads four rows of bytes as one row of words, takes the four nibbles of a word at once and
   pairs them, so that a row of the result holds two tokens' nibbles, the earlier token's the low one. -/
module

public import proofs.«01_k».proof.Proof.Gen.XqIdeal.Value
public import Idealize.ShloMosaic.Lib.BitcastFour
public import Idealize.ShloMosaic.Lib.BitcastPair
public import Idealize.ShloMosaic.Lib.Pointwise

@[expose] public section

set_option maxRecDepth 16384

noncomputable section

namespace Cert.Proof.Pack

open Cert.XqIdeal Idealize.ShloMosaic

/-- The word of four bytes whose nibbles are taken. -/
def nibbles (b : IVec S256x2880 8) : IVec S64x2880 32 :=
  ori (andi (shrsi (bitcast S64x2880 32 b Facts₀.bitcasts_S256x2880_w8_S64x2880_w32) (broadcast S64x2880 2#32)) (broadcast S64x2880 117901063#32))
    (andi (shrsi (bitcast S64x2880 32 b Facts₀.bitcasts_S256x2880_w8_S64x2880_w32) (broadcast S64x2880 4#32)) (broadcast S64x2880 134744072#32))

/-- The kernel's packing of 256 rows of bytes into 128 rows of two nibbles each. -/
def pack (b : IVec S256x2880 8) : IVec S128x2880 8 :=
  trunci 8 (bitcast S128x2880 16 (andi (ori (nibbles b) (shrsi (nibbles b) (broadcast S64x2880 4#32))) (broadcast S64x2880 16711935#32))
    Facts₀.bitcasts_S64x2880_w32_S128x2880_w16) Facts₀.natLt_8_16

/-- The word of paired nibbles, from the word of four bytes. -/
def paired (w : BitVec 32) : BitVec 32 :=
  IntOp.andi (IntOp.ori (IntOp.ori (IntOp.andi (IntOp.shrsi ArithUnit.vector w 2#32) 117901063#32) (IntOp.andi (IntOp.shrsi ArithUnit.vector w 4#32) 134744072#32))
    (IntOp.shrsi ArithUnit.vector (IntOp.ori (IntOp.andi (IntOp.shrsi ArithUnit.vector w 2#32) 117901063#32) (IntOp.andi (IntOp.shrsi ArithUnit.vector w 4#32) 134744072#32)) 4#32))
    16711935#32

/-- A bit of a half of the paired word: the low nibble is bits 2, 3, 4 and 7 of the half's low byte, the high nibble
    those of its high byte. -/
theorem paired_bit (w : BitVec 32) (h q : ℕ) (hh : h < 2) (hq : q < 8) :
    (paired w).getLsbD (16 * h + q) =
      if q < 3 then w.getLsbD (16 * h + (q + 2)) else if q = 3 then w.getLsbD (16 * h + 7)
      else if q < 7 then w.getLsbD (16 * h + (8 + (q - 2))) else w.getLsbD (16 * h + 15) := by
  unfold paired
  have e2 : ∀ v : BitVec 32, IntOp.shrsi ArithUnit.vector v 2#32 = v.sshiftRight 2 := fun _ => rfl
  have e4 : ∀ v : BitVec 32, IntOp.shrsi ArithUnit.vector v 4#32 = v.sshiftRight 4 := fun _ => rfl
  rw [e2, e4, e4]
  simp only [IntOp.andi, IntOp.ori]
  interval_cases h <;> interval_cases q <;>
    simp [BitVec.getLsbD_and, BitVec.getLsbD_or, BitVec.getLsbD_sshiftRight, BitVec.getElem_sshiftRight]

theorem bit_high (n : BitVec 32) (l : n < 16#32) (j : ℕ) (hj : 4 ≤ j) : n.getLsbD j = false := by
  have h : n.toNat < 16 := by simpa [BitVec.lt_def] using l
  exact Nat.testBit_lt_two_pow (lt_of_lt_of_le h (by calc 16 = 2 ^ 4 := by norm_num
    _ ≤ 2 ^ j := Nat.pow_le_pow_right (by norm_num) hj))

theorem byte_bit (n : BitVec 32) (q : ℕ) (hq : q < 8) :
    (BitVec.setWidth 8 (((n &&& 7#32) <<< 2) ||| ((n &&& 8#32) <<< 4))).getLsbD q
      = if q < 2 then false else if q < 5 then n.getLsbD (q - 2) else if q < 7 then false else n.getLsbD 3 := by
  interval_cases q <;> simp [BitVec.getLsbD_and, BitVec.getLsbD_or]

/-- Two nibbles in a byte, from the two bytes of the eight-bit floats. -/
theorem pack_at (b : IVec S256x2880 8) (r : Fin 128) (k : Fin 2880) (n0 n1 : BitVec 32) (l0 : n0 < 16#32) (l1 : n1 < 16#32)
    (h0 : b (ix2 ⟨2 * r.val, by omega⟩ k) = BitVec.setWidth 8 (((n0 &&& 7#32) <<< 2) ||| ((n0 &&& 8#32) <<< 4)))
    (h1 : b (ix2 ⟨2 * r.val + 1, by omega⟩ k) = BitVec.setWidth 8 (((n1 &&& 7#32) <<< 2) ||| ((n1 &&& 8#32) <<< 4))) :
    pack b (ix2 r k) = BitVec.setWidth 8 (IntOp.ori n0 (IntOp.shli ArithUnit.vector n1 4#32)) := by
  apply BitVec.eq_of_getLsbD_eq
  intro q hq
  have hw : ∀ j : ℕ, j < 8 → ∀ e : ℕ, (he : e < 2) →
      (bitcast S64x2880 32 b Facts₀.bitcasts_S256x2880_w8_S64x2880_w32 (ix2 ⟨r.val / 2, by omega⟩ k)).getLsbD (16 * (r.val % 2) + (8 * e + j))
        = (b (ix2 ⟨2 * r.val + e, by omega⟩ k)).getLsbD j := by
    intro j hj e he
    have h := bitcast_8_32_getLsbD_ix2 b Facts₀.bitcasts_S256x2880_w8_S64x2880_w32 ⟨r.val / 2, by omega⟩ k (16 * (r.val % 2) + (8 * e + j)) (by omega)
      ⟨2 * r.val + e, by omega⟩ (by show 2 * r.val + e = 4 * (r.val / 2) + (16 * (r.val % 2) + (8 * e + j)) / 8; omega)
    refine Eq.trans h ?_
    rw [show (16 * (r.val % 2) + (8 * e + j)) % 8 = j by omega]
    rfl
  have hp : (pack b (ix2 r k)).getLsbD q
      = (paired (bitcast S64x2880 32 b Facts₀.bitcasts_S256x2880_w8_S64x2880_w32 (ix2 ⟨r.val / 2, by omega⟩ k))).getLsbD (16 * (r.val % 2) + q) := by
    unfold pack
    show (BitVec.setWidth 8 (bitcast S128x2880 16 _ _ (ix2 r k))).getLsbD q = _
    rw [bitcast_32_16, BitVec.getLsbD_setWidth, BitVec.getLsbD_extractLsb']
    have hi : ∀ hh, Shape.Bitcasts.srcIdx (v := 32) (w := 16) Facts₀.bitcasts_S64x2880_w32_S128x2880_w16 (ix2 r k) (S128x2880.row (ix2 r k) / 2) hh
        = ix2 ⟨r.val / 2, by omega⟩ k := by
      intro hh
      funext c
      match c with
      | ⟨0, _⟩ => exact Fin.ext (Shape.Bitcasts.srcIdx_row _ _ _ _ ⟨0, Nat.zero_lt_two⟩ rfl)
      | ⟨1, _⟩ => exact Fin.ext (Shape.Bitcasts.srcIdx_other _ _ _ _ ⟨1, Nat.one_lt_two⟩ (by show ¬ 1 + 2 = 2; omega))
    rw [hi]
    rw [show S128x2880.row (ix2 r k) = r.val from rfl]
    simp only [hq, decide_true, Bool.true_and, show q < 16 by omega]
    rfl
  rw [hp, paired_bit _ _ _ (by omega) hq, BitVec.getLsbD_setWidth]
  have e4 : IntOp.shli ArithUnit.vector n1 4#32 = n1 <<< 4 := rfl
  rw [e4]
  simp only [IntOp.ori, BitVec.getLsbD_or, BitVec.getLsbD_shiftLeft, hq, decide_true, Bool.true_and]
  have b0 := fun j hj => (hw j hj 0 (by omega)).trans (congrArg (fun v => BitVec.getLsbD v j) h0)
  have b1 := fun j hj => (hw j hj 1 (by omega)).trans (congrArg (fun v => BitVec.getLsbD v j) h1)
  simp only [Nat.mul_zero, Nat.zero_add, Nat.mul_one] at b0 b1
  have b0' := fun j hj => (b0 j hj).trans (byte_bit n0 j hj)
  have b1' := fun j hj => (b1 j hj).trans (byte_bit n1 j hj)
  have z4 : n0[4] = false := bit_high n0 l0 4 (by omega)
  have z5 : n0[5] = false := bit_high n0 l0 5 (by omega)
  have z6 : n0[6] = false := bit_high n0 l0 6 (by omega)
  have z7 : n0[7] = false := bit_high n0 l0 7 (by omega)
  interval_cases q
  · simpa using b0' 2 (by omega)
  · simpa using b0' 3 (by omega)
  · simpa using b0' 4 (by omega)
  · simpa using b0' 7 (by omega)
  · simpa [z4] using b1' 2 (by omega)
  · simpa [z5] using b1' 3 (by omega)
  · simpa [z6] using b1' 4 (by omega)
  · simpa [z7] using b1' 7 (by omega)

end Cert.Proof.Pack

end
-- ==== Proof.Round.lean ====
/- ROUNDING TO A CODE. A number clipped to [-6, 6] is rounded to the nearest of the sixteen values of a four-bit float.
   The kernel rounds the signed number in units of half its own power of two, the reference the magnitude in three
   ranges. Both give the same one of fifteen values (`rounds`): 0, ±0.5, ±1, ±1.5, ±2, ±3, ±4, ±6. -/
module

public import Idealize.ShloMosaic.PureOps.Ideal.Laws
public import Idealize.ShloMosaic.Lib.IdealHost

@[expose] public section

namespace Cert.Proof.Round

open Idealize.ShloMosaic

/-- A rounding to nearest is at most one half away. -/
theorem rhe_near (r : ℝ) : |(Ideal.roundHalfEven r : ℝ) - r| ≤ 1 / 2 := by
  have h0 := Int.floor_le r
  have h1 := Int.lt_floor_add_one r
  unfold Ideal.roundHalfEven
  simp only
  split_ifs <;> rw [abs_le] <;> push_cast <;> constructor <;> linarith

/-- Rounding to nearest even is odd. -/
theorem rhe_neg (r : ℝ) : Ideal.roundHalfEven (-r) = -Ideal.roundHalfEven r := by
  by_cases hr : (⌊r⌋ : ℝ) = r
  · have h1 : ⌊-r⌋ = -⌊r⌋ := by
      rw [Int.floor_eq_iff]; push_cast; constructor <;> linarith
    unfold Ideal.roundHalfEven
    simp only [h1]
    rw [if_pos (by push_cast; rw [hr]; norm_num), if_pos (by rw [hr]; norm_num)]
  · have h0 := Int.floor_le r
    have h1 := Int.lt_floor_add_one r
    have h2 : (⌊r⌋ : ℝ) < r := lt_of_le_of_ne h0 hr
    have h3 : ⌊-r⌋ = -⌊r⌋ - 1 := by
      rw [Int.floor_eq_iff]; push_cast; constructor <;> linarith
    unfold Ideal.roundHalfEven
    simp only [h3]
    have he : Even (-⌊r⌋ - 1) ↔ ¬ Even ⌊r⌋ := by
      rw [Int.even_sub_one, even_neg]
    push_cast
    by_cases ha : r - ⌊r⌋ < 1 / 2
    · rw [if_neg (by linarith), if_pos (by linarith), if_pos ha]; ring
    · by_cases hb : 1 / 2 < r - ⌊r⌋
      · rw [if_pos (by linarith), if_neg ha, if_pos hb]; ring
      · rw [if_neg (by linarith), if_neg (by linarith), if_neg ha, if_neg hb]
        by_cases hc : Even ⌊r⌋
        · rw [if_neg (by rw [he]; exact not_not.mpr hc), if_pos hc]; ring
        · rw [if_pos (by rw [he]; exact hc), if_neg hc]; ring

/-- The eight magnitudes a code stands for. -/
noncomputable def grid : List ℝ := [0, 1/2, 1, 3/2, 2, 3, 4, 6]

/-- The reference's rounded magnitude. -/
noncomputable def mag (a : ℝ) : ℝ :=
  if a < 2 then (Ideal.roundHalfEven (2 * a) : ℝ) * (1/2)
  else if a < 4 then (Ideal.roundHalfEven a : ℝ) else 2 * (Ideal.roundHalfEven (a * (1/2)) : ℝ)

/-- The unit the kernel rounds in. -/
noncomputable def unit (a : ℝ) : ℝ := if a < 2 then 1/2 else if a < 4 then 1 else 2

theorem mag_mem (a : ℝ) (h0 : 0 ≤ a) (h6 : a ≤ 6) : mag a ∈ grid := by
  have key : ∀ (r : ℝ) (lo hi : ℤ), (lo : ℝ) ≤ r → r ≤ hi → lo ≤ Ideal.roundHalfEven r ∧ Ideal.roundHalfEven r ≤ hi := by
    intro r lo hi h1 h2
    have h := abs_le.mp (rhe_near r)
    constructor
    · by_contra hc
      have : ((Ideal.roundHalfEven r : ℤ) : ℝ) ≤ (lo : ℝ) - 1 := by
        have h3 : Ideal.roundHalfEven r ≤ lo - 1 := by omega
        exact_mod_cast h3
      linarith [h.1]
    · by_contra hc
      have : (hi : ℝ) + 1 ≤ ((Ideal.roundHalfEven r : ℤ) : ℝ) := by
        have h3 : hi + 1 ≤ Ideal.roundHalfEven r := by omega
        exact_mod_cast h3
      linarith [h.2]
  unfold mag grid
  split_ifs with ha hb
  · obtain ⟨h1, h2⟩ := key (2 * a) 0 4 (by push_cast; linarith) (by push_cast; linarith)
    generalize Ideal.roundHalfEven (2 * a) = n at h1 h2
    interval_cases n <;> norm_num
  · obtain ⟨h1, h2⟩ := key a 2 4 (by push_cast; linarith) (by push_cast; linarith)
    generalize Ideal.roundHalfEven a = n at h1 h2
    interval_cases n <;> norm_num
  · obtain ⟨h1, h2⟩ := key (a * (1/2)) 2 3 (by push_cast; linarith) (by push_cast; linarith)
    generalize Ideal.roundHalfEven (a * (1/2)) = n at h1 h2
    interval_cases n <;> norm_num

/-- The kernel's rounding of a signed number is the reference's of its magnitude, with the sign put back. -/
theorem unit_round (w : ℝ) :
    (Ideal.roundHalfEven (w * (unit |w|)⁻¹) : ℝ) * unit |w| = if w < 0 then -mag |w| else mag |w| := by
  have hpos : ∀ a : ℝ, (Ideal.roundHalfEven (a * (unit a)⁻¹) : ℝ) * unit a = mag a := by
    intro a
    unfold unit mag
    split_ifs
    · rw [show a * ((1:ℝ)/2)⁻¹ = 2 * a by ring]
    · rw [show a * (1:ℝ)⁻¹ = a by ring, mul_one]
    · rw [show a * (2:ℝ)⁻¹ = a * (1/2) by ring]; ring
  split_ifs with h
  · rw [abs_of_neg h, ← hpos (-w), show w * (unit (-w))⁻¹ = -(-w * (unit (-w))⁻¹) by ring, rhe_neg]
    push_cast; ring
  · rw [abs_of_nonneg (not_lt.mp h), hpos]

end Cert.Proof.Round

end
-- ==== Proof.Code.lean ====
/- THE CODES. A number clipped to [-6, 6] becomes a nibble: three bits naming one of eight magnitudes and a sign bit.
   Here the reference's nibble (`nib`) and the number read back from it (`dec`) are written for one number, and the
   kernel's own route - round, scale, pass through an eight-bit float, take that float's bits - is shown to give the same
   number (`kround_eq`) and a byte that holds the nibble's bits (`kbyte_eq`). -/
module

public import proofs.«01_k».proof.Proof.Round
public import Idealize.ShloMosaic.Lib.Pointwise

@[expose] public section

noncomputable section

namespace Cert.Proof.Code

open Idealize.ShloMosaic Cert.Proof.Round

theorem c_half : Ideal.ofBits FTy.f32 1056964608#32 = ((1/2 : ℝ) : EReal) := by
  simp [Ideal.ofBits, Ideal.ieee, -EReal.coe_mul]; norm_num
theorem c_two : Ideal.ofBits FTy.f32 1073741824#32 = ((2 : ℝ) : EReal) := by
  simp [Ideal.ofBits, Ideal.ieee, -EReal.coe_mul]; norm_num
theorem c_four : Ideal.ofBits FTy.f32 1082130432#32 = ((4 : ℝ) : EReal) := by
  simp [Ideal.ofBits, Ideal.ieee, -EReal.coe_mul]; norm_num
theorem c_six : Ideal.ofBits FTy.f32 1086324736#32 = ((6 : ℝ) : EReal) := by
  simp [Ideal.ofBits, Ideal.ieee, -EReal.coe_mul]; norm_num
theorem c_neg_six : Ideal.ofBits FTy.f32 3233808384#32 = ((-6 : ℝ) : EReal) := by
  simp [Ideal.ofBits, Ideal.ieee, -EReal.coe_mul]; norm_num
theorem c_64 : Ideal.ofBits FTy.f32 1115684864#32 = ((64 : ℝ) : EReal) := by
  simp [Ideal.ofBits, Ideal.ieee, -EReal.coe_mul]; norm_num
theorem c_64th : Ideal.ofBits FTy.bf16 15488#16 = ((1/64 : ℝ) : EReal) := by
  simp [Ideal.ofBits, Ideal.ieee, -EReal.coe_mul]; norm_num

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem abs_coe (w : ℝ) : FloatOps.absf (F := Ideal) (φ := .f32) ((w : ℝ) : EReal) = ((|w| : ℝ) : EReal) := by
  show max ((w : ℝ) : EReal) (-((w : ℝ) : EReal)) = _
  rw [← EReal.coe_neg, ← coe_max]; rfl

/-- The number clipped to [-6, 6]. -/
def clip (y : EReal) : EReal := min (Ideal.ofBits FTy.f32 1086324736#32) (max (Ideal.ofBits FTy.f32 3233808384#32) y)

/-- A clipped number is a real in [-6, 6]. -/
theorem clip_real (y : EReal) : ∃ w : ℝ, clip y = (w : EReal) ∧ -6 ≤ w ∧ w ≤ 6 := by
  unfold clip
  rw [c_six, c_neg_six]
  induction y using EReal.rec with
  | bot => exact ⟨-6, by rw [max_eq_left bot_le, ← coe_min]; norm_num, by norm_num, by norm_num⟩
  | top => exact ⟨6, by rw [max_eq_right le_top, min_eq_left le_top], by norm_num, by norm_num⟩
  | coe r =>
    refine ⟨min 6 (max (-6) r), by rw [coe_min, coe_max], ?_, min_le_left _ _⟩
    exact le_min (by norm_num) (le_max_left _ _)

/-- The reference's rounded magnitude of a clipped number. -/
def rmag (w : EReal) : EReal :=
  if FloatOps.absf (F := Ideal) (φ := .f32) w < Ideal.ofBits FTy.f32 1073741824#32 then
    Ideal.liftRound Ideal.roundHalfEven (Ideal.ofBits FTy.f32 1073741824#32 * FloatOps.absf (F := Ideal) (φ := .f32) w)
      * Ideal.ofBits FTy.f32 1056964608#32
  else if FloatOps.absf (F := Ideal) (φ := .f32) w < Ideal.ofBits FTy.f32 1082130432#32 then
    Ideal.liftRound Ideal.roundHalfEven (FloatOps.absf (F := Ideal) (φ := .f32) w)
  else Ideal.ofBits FTy.f32 1073741824#32
    * Ideal.liftRound Ideal.roundHalfEven (FloatOps.absf (F := Ideal) (φ := .f32) w * Ideal.ofBits FTy.f32 1056964608#32)

/-- The place of a magnitude among the eight, as a number. -/
def place (q : EReal) : EReal :=
  if q < Ideal.ofBits FTy.f32 1073741824#32 then Ideal.ofBits FTy.f32 1073741824#32 * q
  else if q < Ideal.ofBits FTy.f32 1082130432#32 then q + Ideal.ofBits FTy.f32 1073741824#32
  else q * Ideal.ofBits FTy.f32 1056964608#32 + Ideal.ofBits FTy.f32 1082130432#32

/-- The reference's nibble of a clipped number: the magnitude's place, plus eight below zero. -/
def nib (w : EReal) : BitVec 32 :=
  IntOp.addi (FloatOps.fptosi (F := Ideal) (φ := .f32) 32 (place (rmag w)))
    (IntOp.muli (BitVec.setWidth 32 (IntOp.andi (BitVec.ofBool (decide (w < 0))) (BitVec.ofBool (decide (0 < rmag w))))) 8#32)

/-- The magnitude read back from a nibble. -/
def dmag (n : BitVec 32) : EReal :=
  Scalar.select (IntOp.cmpi CmpIPredicate.eq (IntOp.shrsi ArithUnit.vector (IntOp.andi n 7#32) 1#32) 0#32)
    (Ideal.ofBits FTy.f32 1056964608#32 * FloatOps.sitofp (F := Ideal) FTy.f32 (IntOp.andi n 1#32))
    ((1 + Ideal.ofBits FTy.f32 1056964608#32 * FloatOps.sitofp (F := Ideal) FTy.f32 (IntOp.andi n 1#32)) *
      Scalar.select (IntOp.cmpi CmpIPredicate.eq (IntOp.shrsi ArithUnit.vector (IntOp.andi n 7#32) 1#32) 1#32) 1
        (Scalar.select (IntOp.cmpi CmpIPredicate.eq (IntOp.shrsi ArithUnit.vector (IntOp.andi n 7#32) 1#32) 2#32)
          (Ideal.ofBits FTy.f32 1073741824#32) (Ideal.ofBits FTy.f32 1082130432#32)))

/-- The number read back from a nibble. -/
def dec (n : BitVec 32) : EReal :=
  Scalar.select (IntOp.cmpi CmpIPredicate.ne (IntOp.andi n 8#32) 0#32) (0 - dmag n) (dmag n)

/-- The kernel's unit of rounding. -/
def kunit (w : EReal) : EReal :=
  max (if FloatOps.absf (F := Ideal) (φ := .f32) w < Ideal.ofBits FTy.f32 1073741824#32 then 1
    else if FloatOps.absf (F := Ideal) (φ := .f32) w < Ideal.ofBits FTy.f32 1082130432#32 then
      Ideal.ofBits FTy.f32 1073741824#32 else Ideal.ofBits FTy.f32 1082130432#32) 1 * Ideal.ofBits FTy.f32 1056964608#32

/-- The kernel's rounded number. -/
def kround (w : EReal) : EReal := Ideal.liftRound Ideal.roundHalfEven (Ideal.div w (kunit w)) * kunit w

/-- The byte of the eight-bit float the kernel makes of a rounded number. -/
def kbyte (v : EReal) : BitVec 8 :=
  BitVec.setWidth 8 (IntOp.ori
    (FloatOps.fptosi (F := Ideal) (φ := .f32) 32
      (Ideal.ofBits FTy.f32 1082130432#32 * place (FloatOps.absf (F := Ideal) (φ := .f32) v)))
    (if v < 0 then 128#32 else 0#32))

/-- The eight magnitudes, by place. -/
def level : Fin 8 → ℝ := ![0, 1/2, 1, 3/2, 2, 3, 4, 6]

/-- The nibble of a sign and a place. -/
def nibble (neg : Prop) [Decidable neg] (i : Fin 8) : BitVec 32 :=
  if neg ∧ 0 < i then BitVec.ofNat 32 (8 + i.val) else BitVec.ofNat 32 i.val

theorem rmag_coe (w : ℝ) : rmag (w : EReal) = ((mag |w| : ℝ) : EReal) := by
  unfold rmag mag
  rw [abs_coe, c_two, c_half, c_four]
  simp only [EReal.coe_lt_coe_iff, ← EReal.coe_mul, Ideal.liftRound]
  split_ifs <;> rfl

theorem kunit_coe (w : ℝ) : kunit (w : EReal) = ((unit |w| : ℝ) : EReal) := by
  unfold kunit unit
  rw [abs_coe, c_two, c_half, c_four]
  simp only [EReal.coe_lt_coe_iff]
  rw [← EReal.coe_one]
  split_ifs
  · rw [max_self, ← EReal.coe_mul]; norm_num
  · rw [← coe_max, ← EReal.coe_mul]; norm_num
  · rw [← coe_max, ← EReal.coe_mul]; norm_num

theorem unit_pos (a : ℝ) : 0 < unit a := by
  unfold unit; split_ifs <;> norm_num

theorem kround_coe (w : ℝ) : kround (w : EReal) = ((if w < 0 then -mag |w| else mag |w| : ℝ) : EReal) := by
  unfold kround
  rw [kunit_coe, Ideal.div, if_neg (by exact_mod_cast (unit_pos _).ne'), ← EReal.coe_inv, ← EReal.coe_mul]
  rw [show Ideal.liftRound Ideal.roundHalfEven ((w * (unit |w|)⁻¹ : ℝ) : EReal)
    = ((Ideal.roundHalfEven (w * (unit |w|)⁻¹) : ℝ) : EReal) from rfl, ← EReal.coe_mul, unit_round]

theorem mag_level (w : ℝ) (h0 : -6 ≤ w) (h6 : w ≤ 6) : ∃ i : Fin 8, mag |w| = level i := by
  have h := mag_mem |w| (abs_nonneg w) (abs_le.mpr ⟨h0, h6⟩)
  simp only [grid, List.mem_cons, List.not_mem_nil, or_false] at h
  rcases h with h | h | h | h | h | h | h | h
  exacts [⟨0, h⟩, ⟨1, h⟩, ⟨2, h⟩, ⟨3, h⟩, ⟨4, h⟩, ⟨5, h⟩, ⟨6, h⟩, ⟨7, h⟩]

theorem place_level (i : Fin 8) : place ((level i : ℝ) : EReal) = ((i.val : ℝ) : EReal) := by
  unfold place
  rw [c_two, c_half, c_four]
  simp only [EReal.coe_lt_coe_iff, ← EReal.coe_mul, ← EReal.coe_add]
  fin_cases i <;> simp [level, -EReal.coe_mul, -EReal.coe_add] <;> norm_num [-EReal.coe_mul, -EReal.coe_add]

theorem toInt_nat (n : ℕ) (h : n < 256) :
    FloatOps.fptosi (F := Ideal) (φ := .f32) 32 ((n : ℝ) : EReal) = BitVec.ofNat 32 n := by
  show Ideal.fptosi 32 _ = _
  rw [Ideal.fptosi, Ideal.toIntClamped_coe, if_pos (by positivity)]
  rw [show ⌊(n : ℝ)⌋ = (n : ℤ) from Int.floor_natCast n, max_eq_right, min_eq_right]
  · exact BitVec.ofInt_natCast 32 n
  · norm_num; omega
  · norm_num

theorem nib_coe (w : ℝ) (i : Fin 8) (h : mag |w| = level i) : nib (w : EReal) = nibble (w < 0) i := by
  unfold nib nibble
  rw [rmag_coe, h, place_level, toInt_nat _ (by omega)]
  have e1 : (((w : ℝ) : EReal) < 0) = (w < 0) := by rw [← EReal.coe_zero, EReal.coe_lt_coe_iff]
  have e2 : (0 < ((level i : ℝ) : EReal)) = (0 < i) := by
    rw [← EReal.coe_zero, EReal.coe_lt_coe_iff]
    fin_cases i <;> simp [level]
  simp only [e1, e2]
  by_cases hw : w < 0
  · fin_cases i <;> simp [hw] <;> decide
  · fin_cases i <;> simp [hw] <;> decide

theorem sitofp_bit (b : BitVec 32) : FloatOps.sitofp (F := Ideal) FTy.f32 b = ((b.toInt : ℝ) : EReal) := rfl

theorem dec_nibble (neg : Prop) [Decidable neg] (i : Fin 8) :
    dec (nibble neg i) = ((if neg then -level i else level i : ℝ) : EReal) := by
  unfold dec dmag
  rw [c_two, c_half, c_four]
  simp only [sitofp_bit]
  by_cases hn : neg
  · fin_cases i <;> simp [nibble, hn, Scalar.select, IntOp.cmpi, IntOp.andi, IntOp.shrsi, level]
    all_goals (rw [← EReal.coe_one, ← EReal.coe_add]; (try rw [← EReal.coe_mul]); congr 1; norm_num)
  · fin_cases i <;> simp [nibble, hn, Scalar.select, IntOp.cmpi, IntOp.andi, IntOp.shrsi, level]
    all_goals (rw [← EReal.coe_one, ← EReal.coe_add]; (try rw [← EReal.coe_mul]); congr 1; norm_num)

theorem kbyte_level (neg : Prop) [Decidable neg] (i : Fin 8) :
    kbyte ((if neg then -level i else level i : ℝ) : EReal)
      = BitVec.setWidth 8 (((nibble neg i &&& 7#32) <<< 2) ||| ((nibble neg i &&& 8#32) <<< 4)) := by
  have hl : 0 ≤ level i := by fin_cases i <;> simp [level] <;> norm_num
  have ha : |(if neg then -level i else level i : ℝ)| = level i := by
    split_ifs
    · rw [abs_neg, abs_of_nonneg hl]
    · exact abs_of_nonneg hl
  have hs : ((((if neg then -level i else level i : ℝ) : ℝ) : EReal) < 0) = (neg ∧ 0 < i) := by
    rw [← EReal.coe_zero, EReal.coe_lt_coe_iff]
    by_cases hn : neg <;> fin_cases i <;> simp [hn, level] <;> norm_num
  unfold kbyte nibble
  simp only [hs]
  rw [abs_coe, ha, place_level, c_four, ← EReal.coe_mul, show ((4:ℝ) * (i.val : ℝ)) = ((4 * i.val : ℕ) : ℝ) by push_cast; ring,
    toInt_nat _ (by omega)]
  by_cases hn : neg
  · simp only [hn, true_and]
    fin_cases i <;> decide
  · simp only [hn, false_and]
    fin_cases i <;> decide

/-- The kernel's rounded number is the reference's, read back from its nibble. -/
theorem kround_eq (y : EReal) : kround (clip y) = dec (nib (clip y)) := by
  obtain ⟨w, hw, h0, h6⟩ := clip_real y
  obtain ⟨i, hi⟩ := mag_level w h0 h6
  rw [hw, kround_coe, nib_coe w i hi, hi, dec_nibble]

/-- The byte of the kernel's rounded number holds the reference's nibble: its three low bits from bit two on, its sign
    bit at bit seven. -/
theorem kbyte_eq (y : EReal) : kbyte (kround (clip y) * Ideal.ofBits FTy.bf16 15488#16 * Ideal.ofBits FTy.f32 1115684864#32)
    = BitVec.setWidth 8 (((nib (clip y) &&& 7#32) <<< 2) ||| ((nib (clip y) &&& 8#32) <<< 4)) := by
  obtain ⟨w, hw, h0, h6⟩ := clip_real y
  obtain ⟨i, hi⟩ := mag_level w h0 h6
  rw [hw, kround_coe, nib_coe w i hi, hi, c_64th, c_64, ← EReal.coe_mul, ← EReal.coe_mul]
  rw [show ∀ r : ℝ, r * (1/64) * 64 = r from fun r => by ring, kbyte_level]

/-- A nibble has four bits. -/
theorem nib_lt (y : EReal) : nib (clip y) < 16#32 := by
  obtain ⟨w, hw, h0, h6⟩ := clip_real y
  obtain ⟨i, hi⟩ := mag_level w h0 h6
  rw [hw, nib_coe w i hi]
  unfold nibble
  split_ifs <;> fin_cases i <;> decide

end Cert.Proof.Code

end
-- ==== Proof.Hadamard.lean ====
/- THE ROTATION. The sixteen-point Hadamard matrix with signs on its columns: the reference's entry (`had`), and the facts
   about the integer words the kernel writes it with inside a 256 x 256 block-diagonal matrix: which block a row lies in,
   the parity of a bitwise and, the sign picked by the column. `block_sum` turns the sum over a row of that matrix into the
   sum over the sixteen columns of its block. -/
module

public import proofs.«01_k».proof.Proof.Code

@[expose] public section

set_option maxRecDepth 16384

noncomputable section

namespace Cert.Proof.Hadamard

open Idealize.ShloMosaic Cert.Proof.Code

/-- The reference's entry at row `i`, column `j`, the column's sign being `σ`. -/
def had (i j : Fin 16) (σ : EReal) : EReal :=
  FloatOps.sitofp (F := Ideal) FTy.f32 (IntOp.subi 1#32 (IntOp.muli 2#32 (IntOp.andi (IntOp.ctpop
    (IntOp.andi (BitVec.ofNat 32 i.val) (BitVec.ofNat 32 j.val))) 1#32))) * σ * Ideal.ofBits FTy.f32 1048576000#32

/-- The kernel's parity of a word of four bits. -/
def parity (p : BitVec 32) : BitVec 32 :=
  IntOp.andi (IntOp.xori (IntOp.xori p (IntOp.shrsi ArithUnit.vector p 2#32))
    (IntOp.shrsi ArithUnit.vector (IntOp.xori p (IntOp.shrsi ArithUnit.vector p 2#32)) 1#32)) 1#32

theorem parity_word : ∀ i j : Fin 16, parity (IntOp.andi (BitVec.ofNat 32 i.val) (BitVec.ofNat 32 j.val))
    = IntOp.andi (IntOp.ctpop (IntOp.andi (BitVec.ofNat 32 i.val) (BitVec.ofNat 32 j.val))) 1#32 := by
  decide +kernel

theorem one_bit (b : BitVec 32) (h : b = 0#32 ∨ b = 1#32) :
    1 - Ideal.ofBits FTy.f32 1073741824#32 * FloatOps.sitofp (F := Ideal) FTy.f32 b
      = FloatOps.sitofp (F := Ideal) FTy.f32 (IntOp.subi 1#32 (IntOp.muli 2#32 b)) := by
  rw [c_two, sitofp_bit, sitofp_bit, ← EReal.coe_one, ← EReal.coe_mul, ← EReal.coe_sub]
  rcases h with h | h
  · subst h; congr 1; norm_num [IntOp.subi, IntOp.muli]
  · subst h; congr 1
    rw [show (IntOp.subi 1#32 (IntOp.muli 2#32 1#32)).toInt = -1 by decide, show (1#32 : BitVec 32).toInt = 1 by decide]; norm_num

theorem parity_bit : ∀ i j : Fin 16, IntOp.andi (IntOp.ctpop (IntOp.andi (BitVec.ofNat 32 i.val) (BitVec.ofNat 32 j.val))) 1#32 = 0#32
    ∨ IntOp.andi (IntOp.ctpop (IntOp.andi (BitVec.ofNat 32 i.val) (BitVec.ofNat 32 j.val))) 1#32 = 1#32 := by
  decide +kernel

/-- The kernel's entry is the reference's. -/
theorem entry_eq (i j : Fin 16) (σ : EReal) :
    (1 - Ideal.ofBits FTy.f32 1073741824#32
        * FloatOps.sitofp (F := Ideal) FTy.f32 (parity (IntOp.andi (BitVec.ofNat 32 i.val) (BitVec.ofNat 32 j.val)))) * σ
      * Ideal.ofBits FTy.f32 1048576000#32 = had i j σ := by
  rw [parity_word, one_bit _ (parity_bit i j)]
  rfl

/-- The sign picked by the column's word. -/
def pick (j : BitVec 32) (s : Fin 16 → EReal) : EReal :=
  Scalar.select (IntOp.cmpi CmpIPredicate.eq j 15#32) (s 15) (Scalar.select (IntOp.cmpi CmpIPredicate.eq j 14#32) (s 14)
  (Scalar.select (IntOp.cmpi CmpIPredicate.eq j 13#32) (s 13) (Scalar.select (IntOp.cmpi CmpIPredicate.eq j 12#32) (s 12)
  (Scalar.select (IntOp.cmpi CmpIPredicate.eq j 11#32) (s 11) (Scalar.select (IntOp.cmpi CmpIPredicate.eq j 10#32) (s 10)
  (Scalar.select (IntOp.cmpi CmpIPredicate.eq j 9#32) (s 9) (Scalar.select (IntOp.cmpi CmpIPredicate.eq j 8#32) (s 8)
  (Scalar.select (IntOp.cmpi CmpIPredicate.eq j 7#32) (s 7) (Scalar.select (IntOp.cmpi CmpIPredicate.eq j 6#32) (s 6)
  (Scalar.select (IntOp.cmpi CmpIPredicate.eq j 5#32) (s 5) (Scalar.select (IntOp.cmpi CmpIPredicate.eq j 4#32) (s 4)
  (Scalar.select (IntOp.cmpi CmpIPredicate.eq j 3#32) (s 3) (Scalar.select (IntOp.cmpi CmpIPredicate.eq j 2#32) (s 2)
  (Scalar.select (IntOp.cmpi CmpIPredicate.eq j 1#32) (s 1) (Scalar.select (IntOp.cmpi CmpIPredicate.eq j 0#32) (s 0) 0)))))))))))))))

theorem pick_eq (j : Fin 16) (s : Fin 16 → EReal) : pick (BitVec.ofNat 32 j.val) s = s j := by
  unfold pick
  fin_cases j <;> simp [Scalar.select, IntOp.cmpi]

theorem low_four : ∀ q : Fin 256, IntOp.andi (BitVec.ofNat 32 q.val) 15#32 = BitVec.ofNat 32 (q.val % 16) := by decide +kernel
theorem high_four : ∀ q : Fin 256, IntOp.shrsi ArithUnit.vector (BitVec.ofNat 32 q.val) 4#32 = BitVec.ofNat 32 (q.val / 16) := by decide +kernel
/-- The block and the row within it, of a row in the order that keeps eight groups side by side. -/
theorem strided_group : ∀ q : Fin 256, IntOp.ori (IntOp.shli ArithUnit.vector (IntOp.shrsi ArithUnit.vector (BitVec.ofNat 32 q.val) 7#32) 3#32)
    (IntOp.andi (BitVec.ofNat 32 q.val) 7#32) = BitVec.ofNat 32 (q.val / 128 * 8 + q.val % 8) := by decide +kernel
theorem strided_row : ∀ q : Fin 256, IntOp.andi (IntOp.shrsi ArithUnit.vector (BitVec.ofNat 32 q.val) 3#32) 15#32
    = BitVec.ofNat 32 (q.val / 8 % 16) := by decide +kernel

theorem same_word : ∀ a b : Fin 16, (IntOp.cmpi CmpIPredicate.eq (BitVec.ofNat 32 a.val) (BitVec.ofNat 32 b.val)) = BitVec.ofBool (decide (a = b)) := by
  decide +kernel

/-- An entry of the block-diagonal matrix: block `g`, row `i` of the block, column `l`. -/
def entry (σ : Fin 16 → EReal) (g i : Fin 16) (l : Fin 256) : EReal :=
  if g = ⟨l.val / 16, by omega⟩ then had i ⟨l.val % 16, by omega⟩ (σ ⟨l.val % 16, by omega⟩) else 0

theorem entry_word (σ : Fin 16 → EReal) (g i : Fin 16) (l : Fin 256) :
    Scalar.select (IntOp.cmpi CmpIPredicate.eq (BitVec.ofNat 32 g.val) (IntOp.shrsi ArithUnit.vector (BitVec.ofNat 32 l.val) 4#32))
      ((1 - Ideal.ofBits FTy.f32 1073741824#32
        * FloatOps.sitofp (F := Ideal) FTy.f32 (parity (IntOp.andi (BitVec.ofNat 32 i.val) (IntOp.andi (BitVec.ofNat 32 l.val) 15#32))))
        * pick (IntOp.andi (BitVec.ofNat 32 l.val) 15#32) σ * Ideal.ofBits FTy.f32 1048576000#32) 0 = entry σ g i l := by
  rw [high_four, low_four]
  have h1 := entry_eq i ⟨l.val % 16, by omega⟩ (pick (BitVec.ofNat 32 (l.val % 16)) σ)
  have h2 := pick_eq ⟨l.val % 16, by omega⟩ σ
  have h3 := same_word g ⟨l.val / 16, by omega⟩
  dsimp only at h1 h2 h3
  rw [h1, h2, h3]
  unfold entry Scalar.select
  by_cases h : g = ⟨l.val / 16, by omega⟩ <;> simp [h]

/-- A row of the block-diagonal matrix times a column: the sum over the row's block. -/
theorem block_sum (σ : Fin 16 → EReal) (g i : Fin 16) (x : Fin 256 → EReal) :
    ∑ l, entry σ g i l * x l = ∑ j : Fin 16, x ⟨g.val * 16 + j.val, by omega⟩ * had i j (σ j) := by
  rw [← (finProdFinEquiv : Fin 16 × Fin 16 ≃ Fin (16 * 16)).sum_comp (fun l : Fin 256 => entry σ g i l * x l), Fintype.sum_prod_type]
  rw [Finset.sum_eq_single g]
  · refine Finset.sum_congr rfl fun j _ => ?_
    have e : (finProdFinEquiv (g, j) : Fin 256) = ⟨g.val * 16 + j.val, by omega⟩ := by
      apply Fin.ext; show j.val + 16 * g.val = g.val * 16 + j.val; omega
    rw [e, mul_comm]
    have d : (g.val * 16 + j.val) / 16 = g.val := by omega
    have r : (g.val * 16 + j.val) % 16 = j.val := by omega
    simp only [entry, d, r, if_true]
  · intro b _ hb
    refine Finset.sum_eq_zero fun j _ => ?_
    have e : (finProdFinEquiv (b, j) : Fin 256) = ⟨b.val * 16 + j.val, by omega⟩ := by
      apply Fin.ext; show j.val + 16 * b.val = b.val * 16 + j.val; omega
    have d : (b.val * 16 + j.val) / 16 = b.val := by omega
    rw [e]
    simp only [entry, d]
    rw [if_neg (fun h => hb h.symm), zero_mul]
  · intro h; exact absurd (Finset.mem_univ g) h

end Cert.Proof.Hadamard

end
-- ==== Proof.XqBlock.lean ====
/- THE QUANTISER, ONE BLOCK. What the quantising call leaves for x, written as closed formulas over its operands (`Gc` the
   packed codes, `Gb` the block scales, `Gs` the global scale, `Gt` the dequantised and transposed operand), and what one
   half of a block of rows computes, given that the held matrix is the block-diagonal one. -/
module

public import proofs.«01_k».proof.Proof.Pack
public import proofs.«01_k».proof.Proof.Hadamard

@[expose] public section

set_option maxRecDepth 16384

noncomputable section

namespace Cert.Proof.Xq

open Cert.XqIdeal Cert.XqIdeal.Gen Idealize.ShloMosaic Cert.Proof.Code Cert.Proof.Hadamard

/-- The global scale, from the largest magnitude. -/
def sg (s : EReal) : EReal := if 0 < s then Ideal.div s (Ideal.ofBits FTy.f32 1160249344#32) else 1

/-- A block's scale, from the largest magnitude of all and of the block. -/
def sb (s a : EReal) : EReal :=
  min (Ideal.ofBits FTy.f32 1138753536#32) (max 0 (Ideal.div (Ideal.div a (Ideal.ofBits FTy.f32 1086324736#32)) (sg s)))

/-- A number over its scale, zero where the scale is not positive. -/
def scaled (y d : EReal) : EReal := if 0 < d then Ideal.div y (if 0 < d then d else 1) else 0

/-- The kernel multiplies by the reciprocal. -/
theorem recip_eq (y d : EReal) : y * (if 0 < d then Ideal.div 1 (if 0 < d then d else 1) else 0) = scaled y d := by
  unfold scaled
  split_ifs with h
  · rw [Ideal.div, Ideal.div, if_neg h.ne', if_neg h.ne', one_mul]
  · rw [mul_zero]

/-- The rotated operand: group `g`, row `i` of the group, column `k`. -/
def rot (σ : FVec Ideal S16 .f32) (x : FVec Ideal S3072x2880 .bf16) (g : Fin 192) (i : Fin 16) (k : Fin 2880) : EReal :=
  ∑ j : Fin 16, x (ix2 ⟨g.val * 16 + j.val, by omega⟩ k) * had i j (σ (ix1 j))

/-- The rotated number over its scale, clipped. -/
def wc (σ : FVec Ideal S16 .f32) (s : FVec Ideal S1x1 .f32) (x : FVec Ideal S3072x2880 .bf16) (a : FVec Ideal S192x2880 .f32)
    (g : Fin 192) (i : Fin 16) (k : Fin 2880) : EReal :=
  clip (scaled (rot σ x g i k) (sb (s (ix2 0 0)) (a (ix2 g k)) * sg (s (ix2 0 0))))

/-- The packed codes: two tokens' nibbles to a byte. -/
def Gc (σ : FVec Ideal S16 .f32) (s : FVec Ideal S1x1 .f32) (x : FVec Ideal S3072x2880 .bf16) (a : FVec Ideal S192x2880 .f32) :
    IVec S1536x2880 8 := fun i =>
  BitVec.setWidth 8 (IntOp.ori (nib (wc σ s x a ⟨(i 0).val / 8, by have := (i 0).isLt; change _ < 1536 at this; omega⟩ ⟨(i 0).val % 8 * 2, by omega⟩ (i 1)))
    (IntOp.shli ArithUnit.vector
      (nib (wc σ s x a ⟨(i 0).val / 8, by have := (i 0).isLt; change _ < 1536 at this; omega⟩ ⟨(i 0).val % 8 * 2 + 1, by omega⟩ (i 1))) 4#32))

/-- The block scales. -/
def Gb (s : FVec Ideal S1x1 .f32) (a : FVec Ideal S192x2880 .f32) : FVec Ideal S192x2880 .fp8e4m3 := fun i => sb (s (ix2 0 0)) (a i)

/-- The global scale. -/
def Gs (s : FVec Ideal S1x1 .f32) : FVec Ideal S1 .f32 := fun _ => sg (s (ix2 0 0))

/-- The dequantised operand, transposed. -/
def Gt (σ : FVec Ideal S16 .f32) (s : FVec Ideal S1x1 .f32) (x : FVec Ideal S3072x2880 .bf16) (a : FVec Ideal S192x2880 .f32) :
    FVec Ideal S2880x3072 .bf16 := fun i =>
  dec (nib (wc σ s x a ⟨(i 1).val / 16, by have := (i 1).isLt; change _ < 3072 at this; omega⟩ ⟨(i 1).val % 16, by omega⟩ (i 0)))
    * sb (s (ix2 0 0)) (a (ix2 ⟨(i 1).val / 16, by have := (i 1).isLt; change _ < 3072 at this; omega⟩ (i 0)))

/-! ## Half a block -/

/-- The held matrix is the block-diagonal one. -/
def Held (σ : Fin 16 → EReal) (M : Vec Ideal S256x256 .bf16) : Prop :=
  ∀ q l : Fin 256, M (ix2 q l) = entry σ ⟨q.val / 16, by omega⟩ ⟨q.val % 16, by omega⟩ l

/-- The clipped number at row `q` of half a block, from the half's rows and the scale's largest magnitude. -/
def wq (σ : Fin 16 → EReal) (s a : EReal) (x : Vec Ideal S256x2880 .bf16) (q : Fin 256) (k : Fin 2880) : EReal :=
  clip (scaled (∑ j : Fin 16, x (ix2 ⟨q.val / 16 * 16 + j.val, by omega⟩ k) * had ⟨q.val % 16, by omega⟩ j (σ j)) (sb s a * sg s))

variable (s : Elt Ideal .f32) (a : Vec Ideal S32x2880 .f32) (M : Vec Ideal S256x256 .bf16) (x : Vec Ideal S256x2880 .bf16) (σ : Fin 16 → EReal)

theorem pay11_at (g : Fin 32) (k : Fin 2880) : k0_pay11 s a (ix2 g k) = sb s (a (ix2 g k)) := by
  pointwise [k0_pay11, k0_pay10, sb, sg]

theorem pay10_eq : k0_pay10 s = sg s := by
  pointwise [k0_pay10, sg]

theorem dot_eq (hM : Held σ M) (q : Fin 256) (k : Fin 2880) : ∑ l, M (ix2 q l) * x (ix2 l k)
    = ∑ j : Fin 16, x (ix2 ⟨q.val / 16 * 16 + j.val, by omega⟩ k) * had ⟨q.val % 16, by omega⟩ j (σ j) := by
  rw [← block_sum σ ⟨q.val / 16, by omega⟩ ⟨q.val % 16, by omega⟩ (fun l => x (ix2 l k))]
  exact Finset.sum_congr rfl fun l _ => by rw [hM q l]

theorem round_lo (hM : Held σ M) (q : Fin 256) (k : Fin 2880) :
    k0_pay15 (k0_pay12 s a) M x (ix2 q k) = kround (wq σ s (a (ix2 ⟨q.val / 16, by omega⟩ k)) x q k) := by
  pointwise [k0_pay15, k0_pay12]
  rw [pay11_at, pay10_eq, recip_eq, dot_eq M x σ hM]
  rfl

theorem round_hi (hM : Held σ M) (q : Fin 256) (k : Fin 2880) :
    k0_pay21 (k0_pay12 s a) M x (ix2 q k) = kround (wq σ s (a (ix2 ⟨16 + q.val / 16, by omega⟩ k)) x q k) := by
  pointwise [k0_pay21, k0_pay12]
  rw [pay11_at, pay10_eq, recip_eq, dot_eq M x σ hM]
  rfl

theorem xt_lo (hM : Held σ M) (r : Fin 2880) (q : Fin 256) :
    k0_pay19 (k0_pay14 (k0_pay13 s a)) (k0_pay15 (k0_pay12 s a) M x) (ix2 r q)
      = dec (nib (wq σ s (a (ix2 ⟨q.val / 16, by omega⟩ r)) x q r)) * sb s (a (ix2 ⟨q.val / 16, by omega⟩ r)) := by
  pointwise [k0_pay19, k0_pay14, k0_pay13]
  rw [round_lo s a M x σ hM, pay11_at]
  congr 1
  exact kround_eq _

theorem xt_hi (hM : Held σ M) (r : Fin 2880) (q : Fin 256) :
    k0_pay2 (k0_pay20 (k0_pay13 s a)) (k0_pay21 (k0_pay12 s a) M x) (ix2 r q)
      = dec (nib (wq σ s (a (ix2 ⟨16 + q.val / 16, by omega⟩ r)) x q r)) * sb s (a (ix2 ⟨16 + q.val / 16, by omega⟩ r)) := by
  pointwise [k0_pay2, k0_pay20, k0_pay13]
  rw [round_hi s a M x σ hM, pay11_at]
  congr 1
  exact kround_eq _

theorem codes_lo (hM : Held σ M) (r : Fin 128) (k : Fin 2880) :
    k0_pay18 (k0_pay16 (k0_pay12 s a) M x) (k0_pay17 (k0_pay12 s a) M x) (FloatOps.ofBits FTy.f32 1073741824#32) (ix2 r k)
      = BitVec.setWidth 8 (IntOp.ori (nib (wq σ s (a (ix2 ⟨r.val / 8, by omega⟩ k)) x ⟨2 * r.val, by omega⟩ k))
        (IntOp.shli ArithUnit.vector (nib (wq σ s (a (ix2 ⟨r.val / 8, by omega⟩ k)) x ⟨2 * r.val + 1, by omega⟩ k)) 4#32)) := by
  obtain ⟨b, hb, hv⟩ : ∃ b : IVec S256x2880 8, k0_pay18 (k0_pay16 (k0_pay12 s a) M x) (k0_pay17 (k0_pay12 s a) M x) (FloatOps.ofBits FTy.f32 1073741824#32)
      = Pack.pack b ∧ ∀ q k, b (ix2 q k) = kbyte (k0_pay15 (k0_pay12 s a) M x (ix2 q k) * Ideal.ofBits FTy.bf16 15488#16 * Ideal.ofBits FTy.f32 1115684864#32) := by
    refine ⟨trunci 8 _ natLt_8_32, rfl, fun q k => ?_⟩
    pointwise [k0_pay16, k0_pay17, kbyte, place]
  rw [hb]
  refine Pack.pack_at b r k _ _ (nib_lt _) (nib_lt _) ?_ ?_
  · rw [hv, round_lo s a M x σ hM]
    have e : (⟨2 * r.val / 16, by omega⟩ : Fin 32) = ⟨r.val / 8, by omega⟩ := Fin.ext (by show 2 * r.val / 16 = r.val / 8; omega)
    rw [e]
    exact kbyte_eq _
  · rw [hv, round_lo s a M x σ hM]
    have e : (⟨(2 * r.val + 1) / 16, by omega⟩ : Fin 32) = ⟨r.val / 8, by omega⟩ := Fin.ext (by show (2 * r.val + 1) / 16 = r.val / 8; omega)
    rw [e]
    exact kbyte_eq _

theorem codes_hi (hM : Held σ M) (r : Fin 128) (k : Fin 2880) :
    k0_pay1 (k0_pay23 (k0_pay22 (k0_pay12 s a) M x)) (k0_pay24 (k0_pay22 (k0_pay12 s a) M x)) (ix2 r k)
      = BitVec.setWidth 8 (IntOp.ori (nib (wq σ s (a (ix2 ⟨16 + r.val / 8, by omega⟩ k)) x ⟨2 * r.val, by omega⟩ k))
        (IntOp.shli ArithUnit.vector (nib (wq σ s (a (ix2 ⟨16 + r.val / 8, by omega⟩ k)) x ⟨2 * r.val + 1, by omega⟩ k)) 4#32)) := by
  obtain ⟨b, hb, hv⟩ : ∃ b : IVec S256x2880 8, k0_pay1 (k0_pay23 (k0_pay22 (k0_pay12 s a) M x)) (k0_pay24 (k0_pay22 (k0_pay12 s a) M x))
      = Pack.pack b ∧ ∀ q k, b (ix2 q k) = kbyte (k0_pay21 (k0_pay12 s a) M x (ix2 q k) * Ideal.ofBits FTy.bf16 15488#16 * Ideal.ofBits FTy.f32 1115684864#32) := by
    refine ⟨trunci 8 _ natLt_8_32, rfl, fun q k => ?_⟩
    pointwise [k0_pay22, kbyte, place]
  rw [hb]
  refine Pack.pack_at b r k _ _ (nib_lt _) (nib_lt _) ?_ ?_
  · rw [hv, round_hi s a M x σ hM]
    have e : (⟨16 + 2 * r.val / 16, by omega⟩ : Fin 32) = ⟨16 + r.val / 8, by omega⟩ := Fin.ext (by show 16 + 2 * r.val / 16 = 16 + r.val / 8; omega)
    rw [e]
    exact kbyte_eq _
  · rw [hv, round_hi s a M x σ hM]
    have e : (⟨16 + (2 * r.val + 1) / 16, by omega⟩ : Fin 32) = ⟨16 + r.val / 8, by omega⟩ := Fin.ext (by show 16 + (2 * r.val + 1) / 16 = 16 + r.val / 8; omega)
    rw [e]
    exact kbyte_eq _

end Cert.Proof.Xq

end
-- ==== Proof.XqHeld.lean ====
/- THE QUANTISER: what the scratch of the quantising call holds, and where its blocks lie. The first point writes the
   block-diagonal matrix from the signs; every later point reads it. -/
module

public import proofs.«01_k».proof.Proof.XqBlock
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.Xq

open Cert.XqIdeal Cert.XqIdeal.Gen Idealize.ShloMosaic Idealize.ShloMosaic.TcCoe Idealize.SL.Sem Cert.Proof.Code Cert.Proof.Hadamard

variable (m : (ℓ : Loc nD τ sig) → Buf (Elt Ideal) ℓ)

/-- Where the windows' blocks lie at a grid point. -/
theorem idx : ∀ t : Fin cfg0.N, win0_0.index t = ![0] ∧ win0_1.index t = ![0, 0] ∧ win0_2.index t = ![t.val, 0] ∧ win0_3.index t = ![t.val, 0]
    ∧ win0_4.index t = ![t.val, 0] ∧ win0_5.index t = ![t.val, 0] ∧ win0_6.index t = ![0] ∧ win0_7.index t = ![0, t.val] :=
  (by decide +kernel : ∀ t : Fin grid0.N, _)

/-- The signs' block is the signs. -/
theorem signs_eq (c : Dev nD) (t : Fin cfg0.N) : iblk m c 0 t = m ((c : Thread nD τ).loc main_arg0) := by
  obtain ⟨e0, e1, e2, e3, e4, e5, e6, e7⟩ := idx t
  funext y
  blk_simp [iblk, V]
  blk_ext [iblk, V, e0]

/-- The largest magnitude's block is the largest magnitude. -/
theorem amax_eq (c : Dev nD) (t : Fin cfg0.N) : iblk m c 1 t = m ((c : Thread nD τ).loc main_arg1) := by
  obtain ⟨e0, e1, e2, e3, e4, e5, e6, e7⟩ := idx t
  funext y
  blk_simp [iblk, V]
  blk_ext [iblk, V, e1]

/-- The signs as a function of the position in a group. -/
def sgn (c : Dev nD) (j : Fin 16) : EReal := (m ((c : Thread nD τ).loc main_arg0) : FVec Ideal S16 .f32) (ix1 j)

/-- What the first point leaves in the scratch. -/
theorem held_first (c : Dev nD) (t : Fin cfg0.N) (h0 : t.val % 6 = 0) : Held (sgn m c) (outsAt0 m c t.val t.isLt).2.2.2.2 := by
  intro q l
  rw [outsAt0_A m c t h0]
  frame_out
  pointwise [k0_pay9, k0_pay3, k0_pay4, k0_pay5, k0_pay6, k0_pay7, k0_pay8]
  rw [signs_eq]
  rw [high_four q, low_four q]
  exact entry_word (sgn m c) ⟨q.val / 16, by omega⟩ ⟨q.val % 16, by omega⟩ l

/-- It stays there. -/
theorem held (c : Dev nD) : ∀ (n : ℕ) (h : n < cfg0.N), Held (sgn m c) (outsAt0 m c n h).2.2.2.2
  | 0, h => held_first m c ⟨0, h⟩ rfl
  | n + 1, h => by
    have hN : cfg0.N = 6 := by decide
    rw [outsAt0_B m c ⟨n + 1, h⟩ (by show ¬ (n + 1) % 6 = 0; omega)]
    frame_out
    exact held c n (by omega)

end Cert.Proof.Xq

end
-- ==== Proof.Xq.lean ====
/- THE QUANTISER, THE ARRAYS. What the quantising call leaves for x in its four result arrays: at every grid point the block's
   two halves are the closed formulas at the block's place, and the blocks cover the arrays. -/
module

public import proofs.«01_k».proof.Proof.XqHeld
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.Xq

open Cert.XqIdeal Cert.XqIdeal.Gen Idealize.ShloMosaic Idealize.ShloMosaic.TcCoe Idealize.SL.Sem Cert.Proof.Code Cert.Proof.Hadamard

variable (m : (ℓ : Loc nD τ sig) → Buf (Elt Ideal) ℓ)

theorem eta2 {n k : ℕ} (y : Shape.Idx ⟨2, ![n, k]⟩) : ∃ (r : Fin n) (q : Fin k), y = ix2 r q :=
  ⟨y 0, y 1, by funext a; fin_cases a <;> rfl⟩

/-- A row of the operand's block, read through half a block's rectangle. -/
theorem rows_at (c : Dev nD) (t : Fin cfg0.N) (o : ℕ) (inb) (p : Fin 256) (k : Fin 2880) (P : Fin 3072) (hP : P.val = t.val * 512 + (o + p.val)) :
    View.ld (iblk m c 2 t) (Rect.unit (s := S512x2880) ![o, 0] ![256, 2880] inb) (ix2 p k)
      = (m ((c : Thread nD τ).loc main_arg2) : FVec Ideal S3072x2880 .bf16) (ix2 P k) := by
  obtain ⟨e0, e1, e2, e3, e4, e5, e6, e7⟩ := idx t
  rw [View.ld_apply]
  blk_simp [iblk, V]
  blk_ext [iblk, V, e2, hP]
  · rw [Rect.idx_unit_val]; rfl
  · rw [Rect.idx_unit_val]; exact Nat.zero_add _

/-- A row of the block maxima. -/
theorem maxima_at (c : Dev nD) (t : Fin cfg0.N) (g : Fin 32) (k : Fin 2880) (P : Fin 192) (hP : P.val = t.val * 32 + g.val) :
    iblk m c 3 t (ix2 g k) = (m ((c : Thread nD τ).loc main_arg3) : FVec Ideal S192x2880 .f32) (ix2 P k) := by
  obtain ⟨e0, e1, e2, e3, e4, e5, e6, e7⟩ := idx t
  blk_simp [iblk, V]
  blk_ext [iblk, V, e3, hP]

theorem amax_ld (c : Dev nD) (t : Fin cfg0.N) (inb) (h) :
    View.ld (iblk m c 1 t) (Rect.unit (s := S1x1) ![0, 0] ![1, 1] inb) (Shape.Idx.first h) = (m ((c : Thread nD τ).loc main_arg1) : FVec Ideal S1x1 .f32) (ix2 0 0) := by
  rw [View.ld_apply, amax_eq]
  congr 1
  funext a
  fin_cases a <;> exact Subsingleton.elim (α := Fin 1) _ _

theorem wq_eq (c : Dev nD) (t : Fin cfg0.N) (o : ℕ) (inb) (q : Fin 256) (k : Fin 2880) (g : Fin 192) (i : Fin 16)
    (hg : g.val * 16 = t.val * 512 + o + q.val / 16 * 16) (hi : q.val % 16 = i.val) :
    wq (sgn m c) ((m ((c : Thread nD τ).loc main_arg1) : FVec Ideal S1x1 .f32) (ix2 0 0)) ((m ((c : Thread nD τ).loc main_arg3) : FVec Ideal S192x2880 .f32) (ix2 g k))
      (View.ld (iblk m c 2 t) (Rect.unit (s := S512x2880) ![o, 0] ![256, 2880] inb)) q k
    = wc (m ((c : Thread nD τ).loc main_arg0)) (m ((c : Thread nD τ).loc main_arg1)) (m ((c : Thread nD τ).loc main_arg2)) (m ((c : Thread nD τ).loc main_arg3)) g i k := by
  have hq : (⟨q.val % 16, by omega⟩ : Fin 16) = i := Fin.ext hi
  unfold wq wc rot
  rw [hq]
  congr 2
  refine Finset.sum_congr rfl fun j _ => ?_
  rw [rows_at m c t o inb _ k ⟨g.val * 16 + j.val, by omega⟩ (by show g.val * 16 + j.val = t.val * 512 + (o + (q.val / 16 * 16 + j.val)); omega)]
  rfl

theorem codes_lo_at (c : Dev nD) (t : Fin cfg0.N) (M : Vec Ideal S256x256 .bf16) (hM : Held (sgn m c) M) (inb inb' h) (z : S128x2880.Idx) (i : S1536x2880.Idx)
    (h0 : (i 0).val = t.val * 256 + (z 0).val) (h1 : (i 1).val = (z 1).val) :
    k0_pay18 (k0_pay16 (k0_pay12 (View.ld (iblk m c 1 t) (Rect.unit (s := S1x1) ![0, 0] ![1, 1] inb) (Shape.Idx.first h)) (iblk m c 3 t)) M
        (View.ld (iblk m c 2 t) (Rect.unit (s := S512x2880) ![0, 0] ![256, 2880] inb')))
      (k0_pay17 (k0_pay12 (View.ld (iblk m c 1 t) (Rect.unit (s := S1x1) ![0, 0] ![1, 1] inb) (Shape.Idx.first h)) (iblk m c 3 t)) M
        (View.ld (iblk m c 2 t) (Rect.unit (s := S512x2880) ![0, 0] ![256, 2880] inb'))) (FloatOps.ofBits FTy.f32 1073741824#32) z
    = Gc (m ((c : Thread nD τ).loc main_arg0)) (m ((c : Thread nD τ).loc main_arg1)) (m ((c : Thread nD τ).loc main_arg2)) (m ((c : Thread nD τ).loc main_arg3)) i := by
  obtain ⟨r, k, rfl⟩ := eta2 z
  obtain ⟨R, K, rfl⟩ := eta2 i
  obtain rfl : K = k := Fin.ext h1
  change R.val = t.val * 256 + r.val at h0
  rw [codes_lo _ _ _ _ _ hM, amax_ld, maxima_at m c t _ K ⟨R.val / 8, by omega⟩ (by show R.val / 8 = t.val * 32 + r.val / 8; omega)]
  rw [wq_eq m c t 0 _ _ K ⟨R.val / 8, by omega⟩ ⟨R.val % 8 * 2, by omega⟩ (by show R.val / 8 * 16 = t.val * 512 + 0 + 2 * r.val / 16 * 16; omega)
      (by show 2 * r.val % 16 = R.val % 8 * 2; omega),
    wq_eq m c t 0 _ _ K ⟨R.val / 8, by omega⟩ ⟨R.val % 8 * 2 + 1, by omega⟩ (by show R.val / 8 * 16 = t.val * 512 + 0 + (2 * r.val + 1) / 16 * 16; omega)
      (by show (2 * r.val + 1) % 16 = R.val % 8 * 2 + 1; omega)]
  rfl

theorem codes_hi_at (c : Dev nD) (t : Fin cfg0.N) (M : Vec Ideal S256x256 .bf16) (hM : Held (sgn m c) M) (inb inb' h) (z : S128x2880.Idx) (i : S1536x2880.Idx)
    (h0 : (i 0).val = t.val * 256 + (128 + (z 0).val)) (h1 : (i 1).val = (z 1).val) :
    k0_pay1 (k0_pay23 (k0_pay22 (k0_pay12 (View.ld (iblk m c 1 t) (Rect.unit (s := S1x1) ![0, 0] ![1, 1] inb) (Shape.Idx.first h)) (iblk m c 3 t)) M
        (View.ld (iblk m c 2 t) (Rect.unit (s := S512x2880) ![256, 0] ![256, 2880] inb'))))
      (k0_pay24 (k0_pay22 (k0_pay12 (View.ld (iblk m c 1 t) (Rect.unit (s := S1x1) ![0, 0] ![1, 1] inb) (Shape.Idx.first h)) (iblk m c 3 t)) M
        (View.ld (iblk m c 2 t) (Rect.unit (s := S512x2880) ![256, 0] ![256, 2880] inb')))) z
    = Gc (m ((c : Thread nD τ).loc main_arg0)) (m ((c : Thread nD τ).loc main_arg1)) (m ((c : Thread nD τ).loc main_arg2)) (m ((c : Thread nD τ).loc main_arg3)) i := by
  obtain ⟨r, k, rfl⟩ := eta2 z
  obtain ⟨R, K, rfl⟩ := eta2 i
  obtain rfl : K = k := Fin.ext h1
  change R.val = t.val * 256 + (128 + r.val) at h0
  rw [codes_hi _ _ _ _ _ hM, amax_ld, maxima_at m c t _ K ⟨R.val / 8, by omega⟩ (by show R.val / 8 = t.val * 32 + (16 + r.val / 8); omega)]
  rw [wq_eq m c t 256 _ _ K ⟨R.val / 8, by omega⟩ ⟨R.val % 8 * 2, by omega⟩ (by show R.val / 8 * 16 = t.val * 512 + 256 + 2 * r.val / 16 * 16; omega)
      (by show 2 * r.val % 16 = R.val % 8 * 2; omega),
    wq_eq m c t 256 _ _ K ⟨R.val / 8, by omega⟩ ⟨R.val % 8 * 2 + 1, by omega⟩ (by show R.val / 8 * 16 = t.val * 512 + 256 + (2 * r.val + 1) / 16 * 16; omega)
      (by show (2 * r.val + 1) % 16 = R.val % 8 * 2 + 1; omega)]
  rfl

theorem xt_lo_at (c : Dev nD) (t : Fin cfg0.N) (M : Vec Ideal S256x256 .bf16) (hM : Held (sgn m c) M) (inb inb' h) (z : S2880x256.Idx) (i : S2880x3072.Idx)
    (h0 : (i 0).val = (z 0).val) (h1 : (i 1).val = t.val * 512 + (z 1).val) :
    k0_pay19 (k0_pay14 (k0_pay13 (View.ld (iblk m c 1 t) (Rect.unit (s := S1x1) ![0, 0] ![1, 1] inb) (Shape.Idx.first h)) (iblk m c 3 t)))
      (k0_pay15 (k0_pay12 (View.ld (iblk m c 1 t) (Rect.unit (s := S1x1) ![0, 0] ![1, 1] inb) (Shape.Idx.first h)) (iblk m c 3 t)) M
        (View.ld (iblk m c 2 t) (Rect.unit (s := S512x2880) ![0, 0] ![256, 2880] inb'))) z
    = Gt (m ((c : Thread nD τ).loc main_arg0)) (m ((c : Thread nD τ).loc main_arg1)) (m ((c : Thread nD τ).loc main_arg2)) (m ((c : Thread nD τ).loc main_arg3)) i := by
  obtain ⟨r, q, rfl⟩ := eta2 z
  obtain ⟨R, K, rfl⟩ := eta2 i
  obtain rfl : R = r := Fin.ext h0
  change K.val = t.val * 512 + q.val at h1
  rw [xt_lo _ _ _ _ _ hM, amax_ld, maxima_at m c t _ R ⟨K.val / 16, by omega⟩ (by show K.val / 16 = t.val * 32 + q.val / 16; omega)]
  rw [wq_eq m c t 0 _ _ R ⟨K.val / 16, by omega⟩ ⟨K.val % 16, by omega⟩ (by show K.val / 16 * 16 = t.val * 512 + 0 + q.val / 16 * 16; omega)
      (by show q.val % 16 = K.val % 16; omega)]
  rfl

theorem xt_hi_at (c : Dev nD) (t : Fin cfg0.N) (M : Vec Ideal S256x256 .bf16) (hM : Held (sgn m c) M) (inb inb' h) (z : S2880x256.Idx) (i : S2880x3072.Idx)
    (h0 : (i 0).val = (z 0).val) (h1 : (i 1).val = t.val * 512 + (256 + (z 1).val)) :
    k0_pay2 (k0_pay20 (k0_pay13 (View.ld (iblk m c 1 t) (Rect.unit (s := S1x1) ![0, 0] ![1, 1] inb) (Shape.Idx.first h)) (iblk m c 3 t)))
      (k0_pay21 (k0_pay12 (View.ld (iblk m c 1 t) (Rect.unit (s := S1x1) ![0, 0] ![1, 1] inb) (Shape.Idx.first h)) (iblk m c 3 t)) M
        (View.ld (iblk m c 2 t) (Rect.unit (s := S512x2880) ![256, 0] ![256, 2880] inb'))) z
    = Gt (m ((c : Thread nD τ).loc main_arg0)) (m ((c : Thread nD τ).loc main_arg1)) (m ((c : Thread nD τ).loc main_arg2)) (m ((c : Thread nD τ).loc main_arg3)) i := by
  obtain ⟨r, q, rfl⟩ := eta2 z
  obtain ⟨R, K, rfl⟩ := eta2 i
  obtain rfl : R = r := Fin.ext h0
  change K.val = t.val * 512 + (256 + q.val) at h1
  rw [xt_hi _ _ _ _ _ hM, amax_ld, maxima_at m c t _ R ⟨K.val / 16, by omega⟩ (by show K.val / 16 = t.val * 32 + (16 + q.val / 16); omega)]
  rw [wq_eq m c t 256 _ _ R ⟨K.val / 16, by omega⟩ ⟨K.val % 16, by omega⟩ (by show K.val / 16 * 16 = t.val * 512 + 256 + q.val / 16 * 16; omega)
      (by show q.val % 16 = K.val % 16; omega)]
  rfl

/-- The codes after the run. -/
theorem codes (c : Dev nD) : (dats m 0 c).arrAt 4 cfg0.N =
    Gc (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  obtain ⟨e0, e1, e2, e3, e4, e5, e6, e7⟩ := idx t
  blk_simp
  rw [after0_4]
  by_cases h0 : t.val % 6 = 0
  · have hM := held m c t.val t.isLt
    rw [outsAt0_A m c t h0] at hM ⊢
    revert hM
    frame_out
    generalize k0_pay9 (F := Ideal) _ _ _ _ _ _ _ _ _ = M
    intro hM'
    canon_tiles z hz
    · exact codes_hi_at m c t M hM' _ _ _ z _ (by simp [e4]; omega) (by simp [e4]; omega)
    · exact codes_lo_at m c t M hM' _ _ _ z _ (by simp [e4]; omega) (by simp [e4]; omega)
  · rw [outsAt0_B m c t h0]
    frame_out
    simp only [read_unread_whole]
    have hM := held m c (t.val - 1) (Nat.lt_of_le_of_lt (Nat.sub_le _ _) t.isLt)
    canon_tiles z hz
    · exact codes_hi_at m c t _ hM _ _ _ z _ (by simp [e4]; omega) (by simp [e4]; omega)
    · exact codes_lo_at m c t _ hM _ _ _ z _ (by simp [e4]; omega) (by simp [e4]; omega)

/-- The dequantised operand after the run. -/
theorem dequantised (c : Dev nD) : (dats m 0 c).arrAt 7 cfg0.N =
    Gt (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t hf y => ?_
  obtain ⟨e0, e1, e2, e3, e4, e5, e6, e7⟩ := idx t
  blk_simp
  rw [after0_7]
  by_cases h0 : t.val % 6 = 0
  · have hM := held m c t.val t.isLt
    rw [outsAt0_A m c t h0] at hM ⊢
    revert hM
    frame_out
    generalize k0_pay9 (F := Ideal) _ _ _ _ _ _ _ _ _ = M
    intro hM'
    canon_tiles z hz
    · exact xt_hi_at m c t M hM' _ _ _ z _ (by simp [e7]; omega) (by simp [e7]; omega)
    · exact xt_lo_at m c t M hM' _ _ _ z _ (by simp [e7]; omega) (by simp [e7]; omega)
  · rw [outsAt0_B m c t h0]
    frame_out
    simp only [read_unread_whole]
    have hM := held m c (t.val - 1) (Nat.lt_of_le_of_lt (Nat.sub_le _ _) t.isLt)
    canon_tiles z hz
    · exact xt_hi_at m c t _ hM _ _ _ z _ (by simp [e7]; omega) (by simp [e7]; omega)
    · exact xt_lo_at m c t _ hM _ _ _ z _ (by simp [e7]; omega) (by simp [e7]; omega)

/-- The block scales after the run. -/
theorem scales (c : Dev nD) : (dats m 0 c).arrAt 5 cfg0.N =
    Gb (m ((c : Thread nD τ).loc main_arg1)) (m ((c : Thread nD τ).loc main_arg3)) := by
  refine (dats m 0 c).arrAt_eq_of_covers 5 _ (by decide +kernel) fun t hf y => ?_
  obtain ⟨e0, e1, e2, e3, e4, e5, e6, e7⟩ := idx t
  blk_simp
  rw [after0_5]
  by_cases h0 : t.val % 6 = 0
  · rw [outsAt0_A m c t h0]
    frame_out
    rw [amax_ld]
    pointwise [k0_pay11, k0_pay10, Gb, sb, sg]
    blk_point [iblk, V, e3, e5]
  · rw [outsAt0_B m c t h0]
    frame_out
    rw [amax_ld]
    pointwise [k0_pay11, k0_pay10, Gb, sb, sg]
    blk_point [iblk, V, e3, e5]

/-- The global scale after the run. -/
theorem gscale (c : Dev nD) : (dats m 0 c).arrAt 6 cfg0.N = Gs (m ((c : Thread nD τ).loc main_arg1)) := by
  refine (dats m 0 c).arrAt_eq_of_covers 6 _ (by decide +kernel) fun t hf y => ?_
  obtain ⟨e0, e1, e2, e3, e4, e5, e6, e7⟩ := idx t
  blk_simp
  rw [after0_6]
  by_cases h0 : t.val % 6 = 0
  · rw [outsAt0_A m c t h0]
    frame_out
    rw [amax_ld]
    pointwise [k0_pay10, Gs, sg]
  · rw [outsAt0_B m c t h0]
    frame_out
    rw [amax_ld]
    pointwise [k0_pay10, Gs, sg]

end Cert.Proof.Xq

end
-- ==== Proof.XqRef.lean ====
/- THE QUANTISER, THE REFERENCE. What the plain program leaves in its four result arrays: the same closed formulas. -/
module

public import proofs.«01_k».proof.Proof.XqBlock
public import proofs.«01_k».proof.Proof.Gen.XqRefIdeal.Value
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.XqRef

open Cert.XqRefIdeal Cert.XqRefIdeal.Gen Idealize.ShloMosaic Idealize.ShloMosaic.TcCoe Idealize.SL.Sem Cert.Proof.Code Cert.Proof.Hadamard
open Cert.Proof.Xq (sg sb scaled recip_eq rot wc Gc Gb Gs Gt)

theorem eta2 {n k : ℕ} (y : Shape.Idx ⟨2, ![n, k]⟩) : ∃ (r : Fin n) (q : Fin k), y = ix2 r q :=
  ⟨y 0, y 1, by funext a; fin_cases a <;> rfl⟩

variable (m : (ℓ : Loc nD τ sig) → Buf (Elt Ideal) ℓ)

/-- Every window is the whole of its array. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0] ∧ win0_6.index t = ![0, 0] :=
  (by decide +kernel : ∀ t : Fin grid0.N, _)

theorem maxima_eq (c : Dev nD) (t : Fin cfg0.N) (g : Fin 192) (k : Fin 2880) :
    iblk m c 2 t (ix2 g k) = (m ((c : Thread nD τ).loc main_arg3) : FVec Ideal S192x2880 .f32) (ix2 g k) := by
  obtain ⟨e0, e1, e2, e3, e4, e5, e6⟩ := idx t
  blk_simp [iblk, V]
  blk_ext [iblk, V, e2]

theorem amax_first (c : Dev nD) (t : Fin cfg0.N) (h) :
    iblk m c 0 t (Shape.Idx.first h) = (m ((c : Thread nD τ).loc main_arg1) : FVec Ideal S1x1 .f32) (ix2 0 0) := by
  obtain ⟨e0, e1, e2, e3, e4, e5, e6⟩ := idx t
  have e : (Shape.Idx.first h : S1x1.Idx) = ix2 0 0 := by
    funext a
    fin_cases a <;> exact Subsingleton.elim (α := Fin 1) _ _
  rw [e]
  blk_simp [iblk, V]
  blk_ext [iblk, V, e0]

/-- The rotated operand the host hands over. -/
theorem rot_eq (c : Dev nD) (t : Fin cfg0.N) (g : Fin 192) (i : Fin 16) (k : Fin 2880) :
    iblk m c 1 t (ix3 g i k) = rot (m ((c : Thread nD τ).loc main_arg0)) (m ((c : Thread nD τ).loc main_arg2)) g i k := by
  obtain ⟨e0, e1, e2, e3, e4, e5, e6⟩ := idx t
  have h : ((View.whole main_v22).slice (win0_1.rect t)).emb (ix3 g i k) = ix3 g i k := by
    funext a
    fin_cases a <;> (apply Fin.ext; simp [e1])
  blk_simp [iblk, e1]
  entry_read
  rw [h]
  pointwise [rot, had]

/-- The scaled number before the clip. -/
theorem pay4_at (v : Vec Ideal S192x16x2880 .f32) (s : Elt Ideal .f32) (a : Vec Ideal S192x2880 .f32) (g : Fin 192) (i : Fin 16) (k : Fin 2880) :
    k0_pay4 v s s a (ix3 g i k) = scaled (v (ix3 g i k)) (sb s (a (ix2 g k)) * sg s) := by
  pointwise [k0_pay4, k0_pay3, k0_pay2, scaled, sb, sg]

theorem nib_at (w : FVec Ideal S192x16x2880 .f32) (g : Fin 192) (i : Fin 16) (k : Fin 2880) :
    IntOp.addi (k0_pay7 w (Ideal.ofBits FTy.f32 3233808384#32) (ix3 g i k))
      (IntOp.muli (k0_pay8 w (Ideal.ofBits FTy.f32 3233808384#32) (ix3 g i k)) 8#32) = nib (clip (w (ix3 g i k))) := by
  pointwise [k0_pay7, k0_pay8, k0_pay6, k0_pay5, nib, clip, rmag, place]

theorem codes_at (w : FVec Ideal S192x16x2880 .f32) (r : Fin 1536) (k : Fin 2880) :
    k0_pay11 (k0_pay7 w (Ideal.ofBits FTy.f32 3233808384#32)) (k0_pay8 w (Ideal.ofBits FTy.f32 3233808384#32)) k0_pay9 (ix2 r k)
      = BitVec.setWidth 8 (IntOp.ori (nib (clip (w (ix3 ⟨r.val / 8, by omega⟩ ⟨r.val % 8 * 2, by omega⟩ k))))
        (IntOp.shli ArithUnit.vector (nib (clip (w (ix3 ⟨r.val / 8, by omega⟩ ⟨r.val % 8 * 2 + 1, by omega⟩ k)))) 4#32)) := by
  rw [← nib_at, ← nib_at]
  pointwise [k0_pay11, k0_pay10, k0_pay9]

theorem xt_at (w : FVec Ideal S192x16x2880 .f32) (b : FVec Ideal S192x2880 .f32) (r : Fin 2880) (k : Fin 3072) :
    k0_pay1 (F := Ideal) b (k0_pay12 (k0_pay7 w (Ideal.ofBits FTy.f32 3233808384#32)) (k0_pay8 w (Ideal.ofBits FTy.f32 3233808384#32)) k0_pay9)
        (k0_pay13 (k0_pay7 w (Ideal.ofBits FTy.f32 3233808384#32)) (k0_pay8 w (Ideal.ofBits FTy.f32 3233808384#32)) k0_pay9) k0_pay14 (ix2 r k)
      = dec (nib (clip (w (ix3 ⟨k.val / 16, by omega⟩ ⟨k.val % 16, by omega⟩ r)))) * b (ix2 ⟨k.val / 16, by omega⟩ r) := by
  rw [← nib_at]
  pointwise [k0_pay1, k0_pay10, k0_pay12, k0_pay13, k0_pay14, k0_pay9, dec, dmag]
/-- The codes after the run. -/
theorem codes (c : Dev nD) : (dats m 0 c).arrAt 3 cfg0.N =
    Gc (m ((c : Thread nD τ).loc main_arg0)) (m ((c : Thread nD τ).loc main_arg1)) (m ((c : Thread nD τ).loc main_arg2))
      (m ((c : Thread nD τ).loc main_arg3)) := by
  refine (dats m 0 c).arrAt_eq_of_covers 3 _ (by decide +kernel) fun t hf y => ?_
  obtain ⟨e0, e1, e2, e3, e4, e5, e6⟩ := idx t
  blk_simp
  rw [after0_3]
  unfold outsAt0
  frame_out
  simp only [read_unread_whole]
  obtain ⟨r, k, rfl⟩ : ∃ (r : Fin 1536) (k : Fin 2880), y = ix2 r k := eta2 y
  have h : ((View.whole main_v23_0).slice (win0_3.rect t)).emb (ix2 r k) = ix2 r k := by
    funext a
    fin_cases a <;> (apply Fin.ext; simp [e3])
  rw [h]
  refine (codes_at _ r k).trans ?_
  rw [pay4_at, pay4_at, rot_eq, rot_eq, maxima_eq, amax_first]
  rfl

/-- The block scales after the run. -/
theorem scales (c : Dev nD) : (dats m 0 c).arrAt 4 cfg0.N =
    Gb (m ((c : Thread nD τ).loc main_arg1)) (m ((c : Thread nD τ).loc main_arg3)) := by
  refine (dats m 0 c).arrAt_eq_of_covers 4 _ (by decide +kernel) fun t hf y => ?_
  obtain ⟨e0, e1, e2, e3, e4, e5, e6⟩ := idx t
  blk_simp
  rw [after0_4]
  unfold outsAt0
  frame_out
  simp only [read_unread_whole]
  rw [amax_first]
  pointwise [k0_pay3, k0_pay2, Gb, sb, sg]
  blk_point [iblk, V, e2, e4]

/-- The global scale after the run. -/
theorem gscale (c : Dev nD) : (dats m 0 c).arrAt 5 cfg0.N = Gs (m ((c : Thread nD τ).loc main_arg1)) := by
  refine (dats m 0 c).arrAt_eq_of_covers 5 _ (by decide +kernel) fun t hf y => ?_
  obtain ⟨e0, e1, e2, e3, e4, e5, e6⟩ := idx t
  blk_simp
  rw [after0_5]
  unfold outsAt0
  frame_out
  simp only [read_unread_whole]
  rw [amax_first]
  pointwise [k0_pay2, Gs, sg]

/-- The dequantised operand after the run. -/
theorem dequantised (c : Dev nD) : (dats m 0 c).arrAt 6 cfg0.N =
    Gt (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t hf y => ?_
  obtain ⟨e0, e1, e2, e3, e4, e5, e6⟩ := idx t
  blk_simp
  rw [after0_6]
  unfold outsAt0
  frame_out
  simp only [read_unread_whole]
  obtain ⟨r, k, rfl⟩ : ∃ (r : Fin 2880) (k : Fin 3072), y = ix2 r k := eta2 y
  have h : ((View.whole main_v23_3).slice (win0_6.rect t)).emb (ix2 r k) = ix2 r k := by
    funext a
    fin_cases a <;> (apply Fin.ext; simp [e6])
  rw [h]
  refine (xt_at _ _ r k).trans ?_
  have hb : ∀ (h) (g : Fin 192), k0_pay3 (iblk m c 0 t (Shape.Idx.first h)) (iblk m c 0 t (Shape.Idx.first h)) (iblk m c 2 t) (ix2 g r)
      = sb ((m ((c : Thread nD τ).loc main_arg1) : FVec Ideal S1x1 .f32) (ix2 0 0)) ((m ((c : Thread nD τ).loc main_arg3) : FVec Ideal S192x2880 .f32) (ix2 g r)) := by
    intro h g
    rw [← maxima_eq m c t g r, ← amax_first m c t h]
    pointwise [k0_pay3, k0_pay2, sb, sg]
  rw [pay4_at, rot_eq, hb, maxima_eq, amax_first]
  rfl

end Cert.Proof.XqRef

end
-- ==== Proof.AmaxDyBlock.lean ====
/- THE BLOCK MAXIMA OF dy, ONE BLOCK. The largest magnitudes of the rotated dy as closed formulas over the operands (`Gm` per group
   and column, `Ga` of all), and what one block of rows gives, given that the held matrix is the block-diagonal one. -/
module

public import proofs.«01_k».proof.Proof.Hadamard
public import proofs.«01_k».proof.Proof.Gen.AmaxDyIdeal.Value
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.AmaxDy

open Cert.AmaxDyIdeal Cert.AmaxDyIdeal.Gen Idealize.ShloMosaic Idealize.ShloMosaic.TcCoe Idealize.SL.Sem Cert.Proof.Code Cert.Proof.Hadamard

/-- The word of minus infinity is the least number. -/
theorem c_least : Ideal.ofBits FTy.f32 4286578688#32 = ⊥ := by
  simp [Ideal.ofBits, Ideal.ieee]

/-- The rotated operand: group `g`, row `i` of the group, column `k`. -/
def rot (σ : FVec Ideal S16 .f32) (x : FVec Ideal S3072x7680 .bf16) (g : Fin 192) (i : Fin 16) (k : Fin 7680) : EReal :=
  ∑ j : Fin 16, x (ix2 ⟨g.val * 16 + j.val, by omega⟩ k) * had i j (σ (ix1 j))

/-- The largest magnitude of a group's column. -/
def Gm (σ : FVec Ideal S16 .f32) (x : FVec Ideal S3072x7680 .bf16) : FVec Ideal S192x7680 .f32 := fun p =>
  Finset.fold max (Ideal.ofBits FTy.f32 4286578688#32) (fun i => FloatOps.absf (F := Ideal) (φ := .f32) (rot σ x (p 0) i (p 1))) Finset.univ

/-- The largest magnitude of all. -/
def Ga (σ : FVec Ideal S16 .f32) (x : FVec Ideal S3072x7680 .bf16) : FVec Ideal S1x1 .f32 := fun _ =>
  Finset.fold max (Ideal.ofBits FTy.f32 4286578688#32) (fun p : Fin 192 × Fin 7680 => Gm σ x (ix2 p.1 p.2)) Finset.univ

/-- Sixteen numbers' maximum, taken one after the other. -/
theorem nest16 (f : Fin 16 → EReal) : max (max (max (max (max (max (max (max (max (max (max (max (max (max (max (f 0) (f 1)) (f 2)) (f 3)) (f 4)) (f 5)) (f 6)) (f 7)) (f 8)) (f 9)) (f 10)) (f 11)) (f 12)) (f 13)) (f 14)) (f 15)
    = Finset.fold max (Ideal.ofBits FTy.f32 4286578688#32) f Finset.univ := by
  refine eq_of_forall_ge_iff fun z => ?_
  rw [Finset.fold_max_le, c_least]
  simp only [max_le_iff]
  constructor
  · intro h
    refine ⟨bot_le, fun i _ => ?_⟩
    fin_cases i <;> first | exact h.2 | tauto
  · rintro ⟨-, h⟩
    have h' := fun i => h i (Finset.mem_univ i)
    simp only [h', and_self]

/-- Twenty-four numbers' and zero's maximum, taken one after the other. -/
theorem nest24 (f : Fin 24 → EReal) (z : EReal) : max (max (max (max (max (max (max (max (max (max (max (max (max (max (max (max (max (max (max (max (max (max (max (max (0) (f 0)) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23) ≤ z
    ↔ 0 ≤ z ∧ ∀ q, f q ≤ z := by
  simp only [max_le_iff]
  constructor
  · intro h
    refine ⟨by tauto, fun i => ?_⟩
    fin_cases i <;> first | exact h.2 | tauto
  · rintro ⟨h0, h⟩
    simp only [h, h0, and_self]

/-! ## Half a block of 256 rows -/

/-- The held matrix is the block-diagonal one, its rows in the order that keeps eight groups side by side. -/
def Held (σ : Fin 16 → EReal) (M : Vec Ideal S256x256 .bf16) : Prop :=
  ∀ q l : Fin 256, M (ix2 q l) = entry σ ⟨q.val / 128 * 8 + q.val % 8, by omega⟩ ⟨q.val / 8 % 16, by omega⟩ l

/-- The first eight groups' largest magnitudes, and the last eight groups'. -/
def lo (M : Vec Ideal S256x256 .bf16) (x : Vec Ideal S256x512 .bf16) : FVec Ideal S8x512 .f32 := k0_pay18 M x
def hi (M : Vec Ideal S256x256 .bf16) (x : Vec Ideal S256x512 .bf16) : FVec Ideal S8x512 .f32 := k0_pay19 (k0_pay17 M x)

variable (M : Vec Ideal S256x256 .bf16) (x : Vec Ideal S256x512 .bf16) (σ : Fin 16 → EReal)

/-- A row of the held matrix times a column: the group's rotated number. -/
theorem row_at (hM : Held σ M) (k : Fin 512) (r : Fin 8) (h : ℕ) (hh : h < 2) (i : Fin 16) (q : Fin 256) (hq : q.val = h * 128 + i.val * 8 + r.val) :
    ∑ l, M (ix2 q l) * x (ix2 l k) = ∑ j : Fin 16, x (ix2 ⟨(h * 8 + r.val) * 16 + j.val, by omega⟩ k) * had i j (σ j) := by
  have e1 : (⟨q.val / 128 * 8 + q.val % 8, by omega⟩ : Fin 16) = ⟨h * 8 + r.val, by omega⟩ := Fin.ext (by show q.val / 128 * 8 + q.val % 8 = h * 8 + r.val; omega)
  have e2 : (⟨q.val / 8 % 16, by omega⟩ : Fin 16) = i := Fin.ext (by show q.val / 8 % 16 = i.val; omega)
  have h3 := block_sum σ ⟨h * 8 + r.val, by omega⟩ i (fun l => x (ix2 l k))
  refine Eq.trans ?_ h3
  exact Finset.sum_congr rfl fun l _ => by rw [hM q l, e1, e2]

/-- The largest magnitude of the group in row `r` of a half. -/
def half (h : ℕ) (hh : h < 2) (r : Fin 8) (k : Fin 512) : EReal :=
  Finset.fold max (Ideal.ofBits FTy.f32 4286578688#32)
    (fun i => FloatOps.absf (F := Ideal) (φ := .f32) (∑ j : Fin 16, x (ix2 ⟨(h * 8 + r.val) * 16 + j.val, by omega⟩ k) * had i j (σ j))) Finset.univ

theorem lo_at (hM : Held σ M) (r : Fin 8) (k : Fin 512) : lo M x (ix2 r k) = half x σ 0 (by omega) r k := by
  have key : ∀ f : Fin 16 → EReal, (∀ i, f i = FloatOps.absf (F := Ideal) (φ := .f32)
      (∑ j : Fin 16, x (ix2 ⟨(0 * 8 + r.val) * 16 + j.val, by omega⟩ k) * had i j (σ j)))
      → lo M x (ix2 r k) = Finset.fold max (Ideal.ofBits FTy.f32 4286578688#32) f Finset.univ := by
    intro f hf
    rw [← nest16]
    pointwise [lo, k0_pay18, k0_pay17]
    iterate 15 refine congrArg₂ max ?_ ((congrArg _ (row_at M x σ hM k r 0 (by omega) _ _ ?_)).trans (hf _).symm)
    refine (congrArg _ (row_at M x σ hM k r 0 (by omega) _ _ ?_)).trans (hf _).symm
    all_goals simp
  exact key _ fun _ => rfl

theorem hi_at (hM : Held σ M) (r : Fin 8) (k : Fin 512) : hi M x (ix2 r k) = half x σ 1 (by omega) r k := by
  have key : ∀ f : Fin 16 → EReal, (∀ i, f i = FloatOps.absf (F := Ideal) (φ := .f32)
      (∑ j : Fin 16, x (ix2 ⟨(1 * 8 + r.val) * 16 + j.val, by omega⟩ k) * had i j (σ j)))
      → hi M x (ix2 r k) = Finset.fold max (Ideal.ofBits FTy.f32 4286578688#32) f Finset.univ := by
    intro f hf
    rw [← nest16]
    pointwise [hi, k0_pay19, k0_pay17]
    iterate 15 refine congrArg₂ max ?_ ((congrArg _ (row_at M x σ hM k r 1 (by omega) _ _ ?_)).trans (hf _).symm)
    refine (congrArg _ (row_at M x σ hM k r 1 (by omega) _ _ ?_)).trans (hf _).symm
    all_goals simp
  exact key _ fun _ => rfl

/-- The running maximum over a point's twenty-four half blocks. -/
def runs (X : Vec Ideal S3072x512 .bf16) : FVec Ideal S8x512 .f32 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (k0_pay9) (lo M (View.ld X (Rect.unit ![0, 0] ![256, 512] inb_S3072x512_S256x512_0_0)))) (hi M (View.ld X (Rect.unit ![0, 0] ![256, 512] inb_S3072x512_S256x512_0_0)))) (lo M (View.ld X (Rect.unit ![256, 0] ![256, 512] inb_S3072x512_S256x512_256_0)))) (hi M (View.ld X (Rect.unit ![256, 0] ![256, 512] inb_S3072x512_S256x512_256_0)))) (lo M (View.ld X (Rect.unit ![512, 0] ![256, 512] inb_S3072x512_S256x512_512_0)))) (hi M (View.ld X (Rect.unit ![512, 0] ![256, 512] inb_S3072x512_S256x512_512_0)))) (lo M (View.ld X (Rect.unit ![768, 0] ![256, 512] inb_S3072x512_S256x512_768_0)))) (hi M (View.ld X (Rect.unit ![768, 0] ![256, 512] inb_S3072x512_S256x512_768_0)))) (lo M (View.ld X (Rect.unit ![1024, 0] ![256, 512] inb_S3072x512_S256x512_1024_0)))) (hi M (View.ld X (Rect.unit ![1024, 0] ![256, 512] inb_S3072x512_S256x512_1024_0)))) (lo M (View.ld X (Rect.unit ![1280, 0] ![256, 512] inb_S3072x512_S256x512_1280_0)))) (hi M (View.ld X (Rect.unit ![1280, 0] ![256, 512] inb_S3072x512_S256x512_1280_0)))) (lo M (View.ld X (Rect.unit ![1536, 0] ![256, 512] inb_S3072x512_S256x512_1536_0)))) (hi M (View.ld X (Rect.unit ![1536, 0] ![256, 512] inb_S3072x512_S256x512_1536_0)))) (lo M (View.ld X (Rect.unit ![1792, 0] ![256, 512] inb_S3072x512_S256x512_1792_0)))) (hi M (View.ld X (Rect.unit ![1792, 0] ![256, 512] inb_S3072x512_S256x512_1792_0)))) (lo M (View.ld X (Rect.unit ![2048, 0] ![256, 512] inb_S3072x512_S256x512_2048_0)))) (hi M (View.ld X (Rect.unit ![2048, 0] ![256, 512] inb_S3072x512_S256x512_2048_0)))) (lo M (View.ld X (Rect.unit ![2304, 0] ![256, 512] inb_S3072x512_S256x512_2304_0)))) (hi M (View.ld X (Rect.unit ![2304, 0] ![256, 512] inb_S3072x512_S256x512_2304_0)))) (lo M (View.ld X (Rect.unit ![2560, 0] ![256, 512] inb_S3072x512_S256x512_2560_0)))) (hi M (View.ld X (Rect.unit ![2560, 0] ![256, 512] inb_S3072x512_S256x512_2560_0)))) (lo M (View.ld X (Rect.unit ![2816, 0] ![256, 512] inb_S3072x512_S256x512_2816_0)))) (hi M (View.ld X (Rect.unit ![2816, 0] ![256, 512] inb_S3072x512_S256x512_2816_0)))

theorem masked_le (R : FVec Ideal S8x512 .f32) (t : ℕ) (ht : t < 15) (p z : EReal) :
    k0_pay1 R (k0_pay96 (BitVec.ofNat 32 t)) p ≤ z ↔ p ≤ z ∧ ∀ r k, R (ix2 r k) ≤ z := by
  have hmask : ∀ (t : Fin 15) (k : Fin 512), IntOp.cmpi CmpIPredicate.slt (IntOp.addi (BitVec.ofNat 32 k.val) (Scalar.muli (BitVec.ofNat 32 t.val) 512#32)) 7680#32 = 1#1 := by
    decide +kernel
  have h' := hmask ⟨t, ht⟩
  dsimp only at h'
  pointwise [k0_pay1, k0_pay96]
  simp only [h', Scalar.select, if_true, max_le_iff, Finset.fold_max_le, c_least]
  constructor
  · rintro ⟨hp, -, h⟩
    exact ⟨hp, fun r k => h (r, k) (Finset.mem_univ _)⟩
  · rintro ⟨hp, h⟩
    exact ⟨hp, bot_le, fun p _ => h p.1 p.2⟩

end Cert.Proof.AmaxDy

end
-- ==== Proof.AmaxDy.lean ====
/- THE BLOCK MAXIMA OF dy, THE ARRAYS. What the call leaves in its two result arrays. -/
module

public import proofs.«01_k».proof.Proof.AmaxDyBlock
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.AmaxDy

open Cert.AmaxDyIdeal Cert.AmaxDyIdeal.Gen Idealize.ShloMosaic Idealize.ShloMosaic.TcCoe Idealize.SL.Sem Cert.Proof.Code Cert.Proof.Hadamard

variable (m : (ℓ : Loc nD τ sig) → Buf (Elt Ideal) ℓ)

theorem eta2 {n k : ℕ} (y : Shape.Idx ⟨2, ![n, k]⟩) : ∃ (r : Fin n) (q : Fin k), y = ix2 r q :=
  ⟨y 0, y 1, by funext a; fin_cases a <;> rfl⟩

/-- Where the windows' blocks lie at a grid point. -/
theorem idx : ∀ t : Fin cfg0.N, win0_0.index t = ![0] ∧ win0_1.index t = ![0, t.val] ∧ win0_2.index t = ![0, t.val] ∧ win0_3.index t = ![0, 0] :=
  (by decide +kernel : ∀ t : Fin grid0.N, _)

/-- The signs' block is the signs. -/
theorem signs_eq (c : Dev nD) (t : Fin cfg0.N) : iblk m c 0 t = m ((c : Thread nD τ).loc main_arg0) := by
  obtain ⟨e0, e1, e2, e3⟩ := idx t
  funext y
  blk_simp [iblk, V]
  blk_ext [iblk, V, e0]

/-- The signs as a function of the position in a group. -/
def sgn (c : Dev nD) (j : Fin 16) : EReal := (m ((c : Thread nD τ).loc main_arg0) : FVec Ideal S16 .f32) (ix1 j)

/-- What the first point leaves in the scratch. -/
theorem held_first (c : Dev nD) (t : Fin cfg0.N) (h0 : t.val % 15 = 0) : Held (sgn m c) (outsAt0 m c t.val t.isLt).2.2 := by
  intro q l
  rw [outsAt0_A m c t h0]
  frame_out
  pointwise [k0_pay8, k0_pay2, k0_pay3, k0_pay4, k0_pay5, k0_pay6, k0_pay7]
  rw [signs_eq]
  rw [strided_group q, strided_row q]
  exact entry_word (sgn m c) ⟨q.val / 128 * 8 + q.val % 8, by omega⟩ ⟨q.val / 8 % 16, by omega⟩ l

/-- It stays there. -/
theorem held (c : Dev nD) : ∀ (n : ℕ) (h : n < cfg0.N), Held (sgn m c) (outsAt0 m c n h).2.2
  | 0, h => held_first m c ⟨0, h⟩ rfl
  | n + 1, h => by
    have hN : cfg0.N = 15 := by decide
    rw [outsAt0_B m c ⟨n + 1, h⟩ (by show ¬ (n + 1) % 15 = 0; omega)]
    frame_out
    exact held c n (by omega)

/-- A row of the operand's block, read through a block of 256 rows. -/
theorem rows_at (c : Dev nD) (t : Fin cfg0.N) (o : ℕ) (inb) (p : Fin 256) (k : Fin 512) (P : Fin 3072) (K : Fin 7680)
    (hP : P.val = o + p.val) (hK : K.val = t.val * 512 + k.val) :
    View.ld (iblk m c 1 t) (Rect.unit (s := S3072x512) ![o, 0] ![256, 512] inb) (ix2 p k)
      = (m ((c : Thread nD τ).loc main_arg1) : FVec Ideal S3072x7680 .bf16) (ix2 P K) := by
  obtain ⟨e0, e1, e2, e3⟩ := idx t
  rw [View.ld_apply]
  blk_simp [iblk, V]
  blk_ext [iblk, V, e1, hP, hK]
  · rw [Rect.idx_unit_val]; rfl
  · rw [Rect.idx_unit_val]; exact congrArg _ (Nat.zero_add _)

/-- Half a block's largest magnitude is the array's. -/
theorem half_at (c : Dev nD) (t : Fin cfg0.N) (o : ℕ) (inb) (h : ℕ) (hh : h < 2) (r : Fin 8) (k : Fin 512) (i : S192x7680.Idx)
    (h0 : (i 0).val * 16 = o + (h * 8 + r.val) * 16) (h1 : (i 1).val = t.val * 512 + k.val) :
    half (View.ld (iblk m c 1 t) (Rect.unit (s := S3072x512) ![o, 0] ![256, 512] inb)) (sgn m c) h hh r k
      = Gm (m ((c : Thread nD τ).loc main_arg0)) (m ((c : Thread nD τ).loc main_arg1)) i := by
  obtain ⟨R, K, rfl⟩ := eta2 i
  change R.val * 16 = o + (h * 8 + r.val) * 16 at h0
  change K.val = t.val * 512 + k.val at h1
  unfold half Gm rot
  congr 1
  funext i
  congr 1
  refine Finset.sum_congr rfl fun j _ => ?_
  rw [rows_at m c t o inb _ k ⟨R.val * 16 + j.val, by omega⟩ K (by show R.val * 16 + j.val = o + ((h * 8 + r.val) * 16 + j.val); omega) h1]
  rfl

theorem lo_piece (c : Dev nD) (t : Fin cfg0.N) (M : Vec Ideal S256x256 .bf16) (hM : Held (sgn m c) M) (o : ℕ) (inb) (z : S8x512.Idx) (i : S192x7680.Idx)
    (h0 : (i 0).val * 16 = o + (z 0).val * 16) (h1 : (i 1).val = t.val * 512 + (z 1).val) :
    lo M (View.ld (iblk m c 1 t) (Rect.unit (s := S3072x512) ![o, 0] ![256, 512] inb)) z
      = Gm (m ((c : Thread nD τ).loc main_arg0)) (m ((c : Thread nD τ).loc main_arg1)) i := by
  obtain ⟨r, k, rfl⟩ := eta2 z
  change (i 0).val * 16 = o + r.val * 16 at h0
  rw [lo_at _ _ _ hM]
  exact half_at m c t o inb 0 (by omega) r k i (by omega) h1

theorem hi_piece (c : Dev nD) (t : Fin cfg0.N) (M : Vec Ideal S256x256 .bf16) (hM : Held (sgn m c) M) (o : ℕ) (inb) (z : S8x512.Idx) (i : S192x7680.Idx)
    (h0 : (i 0).val * 16 = o + (8 + (z 0).val) * 16) (h1 : (i 1).val = t.val * 512 + (z 1).val) :
    hi M (View.ld (iblk m c 1 t) (Rect.unit (s := S3072x512) ![o, 0] ![256, 512] inb)) z
      = Gm (m ((c : Thread nD τ).loc main_arg0)) (m ((c : Thread nD τ).loc main_arg1)) i := by
  obtain ⟨r, k, rfl⟩ := eta2 z
  change (i 0).val * 16 = o + (8 + r.val) * 16 at h0
  rw [hi_at _ _ _ hM]
  exact half_at m c t o inb 1 (by omega) r k i (by omega) h1

/-- The block maxima after the run. -/
theorem maxima (c : Dev nD) : (dats m 0 c).arrAt 2 cfg0.N =
    Gm (m ((c : Thread nD τ).loc main_arg0)) (m ((c : Thread nD τ).loc main_arg1)) := by
  refine (dats m 0 c).arrAt_eq_of_covers 2 _ (by decide +kernel) fun t hf y => ?_
  obtain ⟨e0, e1, e2, e3⟩ := idx t
  blk_simp
  rw [after0_2]
  by_cases h0 : t.val % 15 = 0
  · have hM := held m c t.val t.isLt
    rw [outsAt0_A m c t h0] at hM ⊢
    revert hM
    frame_out
    generalize k0_pay8 (F := Ideal) _ _ _ _ _ _ _ _ _ = M
    intro hM
    canon_tiles z hz
    · exact hi_piece m c t _ hM 2816 inb_S3072x512_S256x512_2816_0 z _ (by simp [e2]; omega) (by simp [e2]; omega)
    · exact lo_piece m c t _ hM 2816 inb_S3072x512_S256x512_2816_0 z _ (by simp [e2]; omega) (by simp [e2]; omega)
    · exact hi_piece m c t _ hM 2560 inb_S3072x512_S256x512_2560_0 z _ (by simp [e2]; omega) (by simp [e2]; omega)
    · exact lo_piece m c t _ hM 2560 inb_S3072x512_S256x512_2560_0 z _ (by simp [e2]; omega) (by simp [e2]; omega)
    · exact hi_piece m c t _ hM 2304 inb_S3072x512_S256x512_2304_0 z _ (by simp [e2]; omega) (by simp [e2]; omega)
    · exact lo_piece m c t _ hM 2304 inb_S3072x512_S256x512_2304_0 z _ (by simp [e2]; omega) (by simp [e2]; omega)
    · exact hi_piece m c t _ hM 2048 inb_S3072x512_S256x512_2048_0 z _ (by simp [e2]; omega) (by simp [e2]; omega)
    · exact lo_piece m c t _ hM 2048 inb_S3072x512_S256x512_2048_0 z _ (by simp [e2]; omega) (by simp [e2]; omega)
    · exact hi_piece m c t _ hM 1792 inb_S3072x512_S256x512_1792_0 z _ (by simp [e2]; omega) (by simp [e2]; omega)
    · exact lo_piece m c t _ hM 1792 inb_S3072x512_S256x512_1792_0 z _ (by simp [e2]; omega) (by simp [e2]; omega)
    · exact hi_piece m c t _ hM 1536 inb_S3072x512_S256x512_1536_0 z _ (by simp [e2]; omega) (by simp [e2]; omega)
    · exact lo_piece m c t _ hM 1536 inb_S3072x512_S256x512_1536_0 z _ (by simp [e2]; omega) (by simp [e2]; omega)
    · exact hi_piece m c t _ hM 1280 inb_S3072x512_S256x512_1280_0 z _ (by simp [e2]; omega) (by simp [e2]; omega)
    · exact lo_piece m c t _ hM 1280 inb_S3072x512_S256x512_1280_0 z _ (by simp [e2]; omega) (by simp [e2]; omega)
    · exact hi_piece m c t _ hM 1024 inb_S3072x512_S256x512_1024_0 z _ (by simp [e2]; omega) (by simp [e2]; omega)
    · exact lo_piece m c t _ hM 1024 inb_S3072x512_S256x512_1024_0 z _ (by simp [e2]; omega) (by simp [e2]; omega)
    · exact hi_piece m c t _ hM 768 inb_S3072x512_S256x512_768_0 z _ (by simp [e2]; omega) (by simp [e2]; omega)
    · exact lo_piece m c t _ hM 768 inb_S3072x512_S256x512_768_0 z _ (by simp [e2]; omega) (by simp [e2]; omega)
    · exact hi_piece m c t _ hM 512 inb_S3072x512_S256x512_512_0 z _ (by simp [e2]; omega) (by simp [e2]; omega)
    · exact lo_piece m c t _ hM 512 inb_S3072x512_S256x512_512_0 z _ (by simp [e2]; omega) (by simp [e2]; omega)
    · exact hi_piece m c t _ hM 256 inb_S3072x512_S256x512_256_0 z _ (by simp [e2]; omega) (by simp [e2]; omega)
    · exact lo_piece m c t _ hM 256 inb_S3072x512_S256x512_256_0 z _ (by simp [e2]; omega) (by simp [e2]; omega)
    · exact hi_piece m c t _ hM 0 inb_S3072x512_S256x512_0_0 z _ (by simp [e2]; omega) (by simp [e2]; omega)
    · exact lo_piece m c t _ hM 0 inb_S3072x512_S256x512_0_0 z _ (by simp [e2]; omega) (by simp [e2]; omega)
  · rw [outsAt0_B m c t h0]
    frame_out
    simp only [read_unread_whole]
    have hM := held m c (t.val - 1) (Nat.lt_of_le_of_lt (Nat.sub_le _ _) t.isLt)
    canon_tiles z hz
    · exact hi_piece m c t _ hM 2816 inb_S3072x512_S256x512_2816_0 z _ (by simp [e2]; omega) (by simp [e2]; omega)
    · exact lo_piece m c t _ hM 2816 inb_S3072x512_S256x512_2816_0 z _ (by simp [e2]; omega) (by simp [e2]; omega)
    · exact hi_piece m c t _ hM 2560 inb_S3072x512_S256x512_2560_0 z _ (by simp [e2]; omega) (by simp [e2]; omega)
    · exact lo_piece m c t _ hM 2560 inb_S3072x512_S256x512_2560_0 z _ (by simp [e2]; omega) (by simp [e2]; omega)
    · exact hi_piece m c t _ hM 2304 inb_S3072x512_S256x512_2304_0 z _ (by simp [e2]; omega) (by simp [e2]; omega)
    · exact lo_piece m c t _ hM 2304 inb_S3072x512_S256x512_2304_0 z _ (by simp [e2]; omega) (by simp [e2]; omega)
    · exact hi_piece m c t _ hM 2048 inb_S3072x512_S256x512_2048_0 z _ (by simp [e2]; omega) (by simp [e2]; omega)
    · exact lo_piece m c t _ hM 2048 inb_S3072x512_S256x512_2048_0 z _ (by simp [e2]; omega) (by simp [e2]; omega)
    · exact hi_piece m c t _ hM 1792 inb_S3072x512_S256x512_1792_0 z _ (by simp [e2]; omega) (by simp [e2]; omega)
    · exact lo_piece m c t _ hM 1792 inb_S3072x512_S256x512_1792_0 z _ (by simp [e2]; omega) (by simp [e2]; omega)
    · exact hi_piece m c t _ hM 1536 inb_S3072x512_S256x512_1536_0 z _ (by simp [e2]; omega) (by simp [e2]; omega)
    · exact lo_piece m c t _ hM 1536 inb_S3072x512_S256x512_1536_0 z _ (by simp [e2]; omega) (by simp [e2]; omega)
    · exact hi_piece m c t _ hM 1280 inb_S3072x512_S256x512_1280_0 z _ (by simp [e2]; omega) (by simp [e2]; omega)
    · exact lo_piece m c t _ hM 1280 inb_S3072x512_S256x512_1280_0 z _ (by simp [e2]; omega) (by simp [e2]; omega)
    · exact hi_piece m c t _ hM 1024 inb_S3072x512_S256x512_1024_0 z _ (by simp [e2]; omega) (by simp [e2]; omega)
    · exact lo_piece m c t _ hM 1024 inb_S3072x512_S256x512_1024_0 z _ (by simp [e2]; omega) (by simp [e2]; omega)
    · exact hi_piece m c t _ hM 768 inb_S3072x512_S256x512_768_0 z _ (by simp [e2]; omega) (by simp [e2]; omega)
    · exact lo_piece m c t _ hM 768 inb_S3072x512_S256x512_768_0 z _ (by simp [e2]; omega) (by simp [e2]; omega)
    · exact hi_piece m c t _ hM 512 inb_S3072x512_S256x512_512_0 z _ (by simp [e2]; omega) (by simp [e2]; omega)
    · exact lo_piece m c t _ hM 512 inb_S3072x512_S256x512_512_0 z _ (by simp [e2]; omega) (by simp [e2]; omega)
    · exact hi_piece m c t _ hM 256 inb_S3072x512_S256x512_256_0 z _ (by simp [e2]; omega) (by simp [e2]; omega)
    · exact lo_piece m c t _ hM 256 inb_S3072x512_S256x512_256_0 z _ (by simp [e2]; omega) (by simp [e2]; omega)
    · exact hi_piece m c t _ hM 0 inb_S3072x512_S256x512_0_0 z _ (by simp [e2]; omega) (by simp [e2]; omega)
    · exact lo_piece m c t _ hM 0 inb_S3072x512_S256x512_0_0 z _ (by simp [e2]; omega) (by simp [e2]; omega)

end Cert.Proof.AmaxDy

end
-- ==== Proof.AmaxDyAll.lean ====
/- THE LARGEST MAGNITUDE OF dy. What the call leaves in its one-number result: the points run through the columns, and the
   number after a point is the largest magnitude of the columns so far. -/
module

public import proofs.«01_k».proof.Proof.AmaxDy
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.AmaxDy

open Cert.AmaxDyIdeal Cert.AmaxDyIdeal.Gen Idealize.ShloMosaic Idealize.ShloMosaic.TcCoe Idealize.SL.Sem Cert.Proof.Code Cert.Proof.Hadamard

variable (m : (ℓ : Loc nD τ sig) → Buf (Elt Ideal) ℓ)

/-- The largest magnitude of the group in row `r` of a point's half block `q`, in the point's column `k`. -/
def groupMax (c : Dev nD) (t : Fin cfg0.N) (r : Fin 8) (k : Fin 512) (q : Fin 24) : EReal :=
  Gm (m ((c : Thread nD τ).loc main_arg0)) (m ((c : Thread nD τ).loc main_arg1)) (ix2 ⟨8 * q.val + r.val, by omega⟩
    ⟨t.val * 512 + k.val, by have : t.val < 15 := t.isLt; omega⟩)

theorem lo_q (c : Dev nD) (t : Fin cfg0.N) (X : Vec Ideal S3072x512 .bf16) (hX : X = iblk m c 1 t) (M : Vec Ideal S256x256 .bf16) (hM : Held (sgn m c) M) (o : ℕ) (inb) (q : Fin 24) (hq : o = 128 * q.val)
    (r : Fin 8) (k : Fin 512) : lo M (View.ld X (Rect.unit (s := S3072x512) ![o, 0] ![256, 512] inb)) (ix2 r k) = groupMax m c t r k q :=
  hX ▸ lo_piece m c t M hM o inb (ix2 r k) _ (by show (8 * q.val + r.val) * 16 = o + r.val * 16; omega) rfl

theorem hi_q (c : Dev nD) (t : Fin cfg0.N) (X : Vec Ideal S3072x512 .bf16) (hX : X = iblk m c 1 t) (M : Vec Ideal S256x256 .bf16) (hM : Held (sgn m c) M) (o : ℕ) (inb) (q : Fin 24) (hq : o + 128 = 128 * q.val)
    (r : Fin 8) (k : Fin 512) : hi M (View.ld X (Rect.unit (s := S3072x512) ![o, 0] ![256, 512] inb)) (ix2 r k) = groupMax m c t r k q :=
  hX ▸ hi_piece m c t M hM o inb (ix2 r k) _ (by show (8 * q.val + r.val) * 16 = o + (8 + r.val) * 16; omega) rfl

theorem runs_at (M : Vec Ideal S256x256 .bf16) (X : Vec Ideal S3072x512 .bf16) (r : Fin 8) (k : Fin 512) : runs M X (ix2 r k) =
    max (max (max (max (max (max (max (max (max (max (max (max (max (max (max (max (max (max (max (max (max (max (max (max (0) (lo M (View.ld X (Rect.unit (s := S3072x512) ![0, 0] ![256, 512] inb_S3072x512_S256x512_0_0)) (ix2 r k))) (hi M (View.ld X (Rect.unit (s := S3072x512) ![0, 0] ![256, 512] inb_S3072x512_S256x512_0_0)) (ix2 r k))) (lo M (View.ld X (Rect.unit (s := S3072x512) ![256, 0] ![256, 512] inb_S3072x512_S256x512_256_0)) (ix2 r k))) (hi M (View.ld X (Rect.unit (s := S3072x512) ![256, 0] ![256, 512] inb_S3072x512_S256x512_256_0)) (ix2 r k))) (lo M (View.ld X (Rect.unit (s := S3072x512) ![512, 0] ![256, 512] inb_S3072x512_S256x512_512_0)) (ix2 r k))) (hi M (View.ld X (Rect.unit (s := S3072x512) ![512, 0] ![256, 512] inb_S3072x512_S256x512_512_0)) (ix2 r k))) (lo M (View.ld X (Rect.unit (s := S3072x512) ![768, 0] ![256, 512] inb_S3072x512_S256x512_768_0)) (ix2 r k))) (hi M (View.ld X (Rect.unit (s := S3072x512) ![768, 0] ![256, 512] inb_S3072x512_S256x512_768_0)) (ix2 r k))) (lo M (View.ld X (Rect.unit (s := S3072x512) ![1024, 0] ![256, 512] inb_S3072x512_S256x512_1024_0)) (ix2 r k))) (hi M (View.ld X (Rect.unit (s := S3072x512) ![1024, 0] ![256, 512] inb_S3072x512_S256x512_1024_0)) (ix2 r k))) (lo M (View.ld X (Rect.unit (s := S3072x512) ![1280, 0] ![256, 512] inb_S3072x512_S256x512_1280_0)) (ix2 r k))) (hi M (View.ld X (Rect.unit (s := S3072x512) ![1280, 0] ![256, 512] inb_S3072x512_S256x512_1280_0)) (ix2 r k))) (lo M (View.ld X (Rect.unit (s := S3072x512) ![1536, 0] ![256, 512] inb_S3072x512_S256x512_1536_0)) (ix2 r k))) (hi M (View.ld X (Rect.unit (s := S3072x512) ![1536, 0] ![256, 512] inb_S3072x512_S256x512_1536_0)) (ix2 r k))) (lo M (View.ld X (Rect.unit (s := S3072x512) ![1792, 0] ![256, 512] inb_S3072x512_S256x512_1792_0)) (ix2 r k))) (hi M (View.ld X (Rect.unit (s := S3072x512) ![1792, 0] ![256, 512] inb_S3072x512_S256x512_1792_0)) (ix2 r k))) (lo M (View.ld X (Rect.unit (s := S3072x512) ![2048, 0] ![256, 512] inb_S3072x512_S256x512_2048_0)) (ix2 r k))) (hi M (View.ld X (Rect.unit (s := S3072x512) ![2048, 0] ![256, 512] inb_S3072x512_S256x512_2048_0)) (ix2 r k))) (lo M (View.ld X (Rect.unit (s := S3072x512) ![2304, 0] ![256, 512] inb_S3072x512_S256x512_2304_0)) (ix2 r k))) (hi M (View.ld X (Rect.unit (s := S3072x512) ![2304, 0] ![256, 512] inb_S3072x512_S256x512_2304_0)) (ix2 r k))) (lo M (View.ld X (Rect.unit (s := S3072x512) ![2560, 0] ![256, 512] inb_S3072x512_S256x512_2560_0)) (ix2 r k))) (hi M (View.ld X (Rect.unit (s := S3072x512) ![2560, 0] ![256, 512] inb_S3072x512_S256x512_2560_0)) (ix2 r k))) (lo M (View.ld X (Rect.unit (s := S3072x512) ![2816, 0] ![256, 512] inb_S3072x512_S256x512_2816_0)) (ix2 r k))) (hi M (View.ld X (Rect.unit (s := S3072x512) ![2816, 0] ![256, 512] inb_S3072x512_S256x512_2816_0)) (ix2 r k)) := by
  pointwise [runs, k0_pay9]

/-- A point's running maximum, bounded: every group's largest magnitude in the point's columns is. -/
theorem runs_le (c : Dev nD) (t : Fin cfg0.N) (M : Vec Ideal S256x256 .bf16) (hM : Held (sgn m c) M) (z : EReal) :
    (∀ r k, runs M (iblk m c 1 t) (ix2 r k) ≤ z) ↔ 0 ≤ z ∧ ∀ (g : Fin 192) (K : Fin 7680), K.val / 512 = t.val →
      Gm (m ((c : Thread nD τ).loc main_arg0)) (m ((c : Thread nD τ).loc main_arg1)) (ix2 g K) ≤ z := by
  have hN : cfg0.N = 15 := by decide
  have ht : t.val < 15 := hN ▸ t.isLt
  have key : ∀ (r : Fin 8) (k : Fin 512), runs M (iblk m c 1 t) (ix2 r k) ≤ z ↔ 0 ≤ z ∧ ∀ q : Fin 24, groupMax m c t r k q ≤ z := by
    intro r k
    suffices hs : ∀ X : Vec Ideal S3072x512 .bf16, X = iblk m c 1 t → (runs M X (ix2 r k) ≤ z ↔ 0 ≤ z ∧ ∀ q : Fin 24, groupMax m c t r k q ≤ z) from hs _ rfl
    intro X hX
    rw [runs_at, lo_q m c t X hX M hM 0 inb_S3072x512_S256x512_0_0 0 rfl r k,
      hi_q m c t X hX M hM 0 inb_S3072x512_S256x512_0_0 1 rfl r k,
      lo_q m c t X hX M hM 256 inb_S3072x512_S256x512_256_0 2 rfl r k,
      hi_q m c t X hX M hM 256 inb_S3072x512_S256x512_256_0 3 rfl r k,
      lo_q m c t X hX M hM 512 inb_S3072x512_S256x512_512_0 4 rfl r k,
      hi_q m c t X hX M hM 512 inb_S3072x512_S256x512_512_0 5 rfl r k,
      lo_q m c t X hX M hM 768 inb_S3072x512_S256x512_768_0 6 rfl r k,
      hi_q m c t X hX M hM 768 inb_S3072x512_S256x512_768_0 7 rfl r k,
      lo_q m c t X hX M hM 1024 inb_S3072x512_S256x512_1024_0 8 rfl r k,
      hi_q m c t X hX M hM 1024 inb_S3072x512_S256x512_1024_0 9 rfl r k,
      lo_q m c t X hX M hM 1280 inb_S3072x512_S256x512_1280_0 10 rfl r k,
      hi_q m c t X hX M hM 1280 inb_S3072x512_S256x512_1280_0 11 rfl r k,
      lo_q m c t X hX M hM 1536 inb_S3072x512_S256x512_1536_0 12 rfl r k,
      hi_q m c t X hX M hM 1536 inb_S3072x512_S256x512_1536_0 13 rfl r k,
      lo_q m c t X hX M hM 1792 inb_S3072x512_S256x512_1792_0 14 rfl r k,
      hi_q m c t X hX M hM 1792 inb_S3072x512_S256x512_1792_0 15 rfl r k,
      lo_q m c t X hX M hM 2048 inb_S3072x512_S256x512_2048_0 16 rfl r k,
      hi_q m c t X hX M hM 2048 inb_S3072x512_S256x512_2048_0 17 rfl r k,
      lo_q m c t X hX M hM 2304 inb_S3072x512_S256x512_2304_0 18 rfl r k,
      hi_q m c t X hX M hM 2304 inb_S3072x512_S256x512_2304_0 19 rfl r k,
      lo_q m c t X hX M hM 2560 inb_S3072x512_S256x512_2560_0 20 rfl r k,
      hi_q m c t X hX M hM 2560 inb_S3072x512_S256x512_2560_0 21 rfl r k,
      lo_q m c t X hX M hM 2816 inb_S3072x512_S256x512_2816_0 22 rfl r k,
      hi_q m c t X hX M hM 2816 inb_S3072x512_S256x512_2816_0 23 rfl r k]
    exact nest24 _ z
  constructor
  · intro h
    refine ⟨((key 0 0).1 (h 0 0)).1, fun g K hK => ?_⟩
    have h' := ((key ⟨g.val % 8, by omega⟩ ⟨K.val % 512, by omega⟩).1 (h _ _)).2 ⟨g.val / 8, by omega⟩
    have eg : (⟨8 * (g.val / 8) + g.val % 8, by omega⟩ : Fin 192) = g := Fin.ext (by show 8 * (g.val / 8) + g.val % 8 = g.val; omega)
    have ek : (⟨t.val * 512 + K.val % 512, by omega⟩ : Fin 7680) = K := Fin.ext (by show t.val * 512 + K.val % 512 = K.val; omega)
    unfold groupMax at h'
    dsimp only at h'
    rwa [eg, ek] at h'
  · rintro ⟨h0, h⟩ r k
    exact (key r k).2 ⟨h0, fun q => h _ _ (by show (t.val * 512 + k.val) / 512 = t.val; omega)⟩

theorem coord (t : Fin cfg0.N) : ((grid0.coords t 0 : Fin _) : ℕ) = t.val :=
  (by decide +kernel : ∀ t : Fin grid0.N, ((grid0.coords t 0 : Fin _) : ℕ) = t.val) t

theorem one_ld (A : Vec Ideal S1x1 .f32) (inb) (h) : View.ld A (Rect.unit (s := S1x1) ![0, 0] ![1, 1] inb) (Shape.Idx.first h) = A (ix2 0 0) := by
  rw [View.ld_apply]
  congr 1
  funext a
  fin_cases a <;> exact Subsingleton.elim (α := Fin 1) _ _

/-- The number after the first point. -/
theorem amax_first (c : Dev nD) (t : Fin cfg0.N) (h0 : t.val % 15 = 0) (z : EReal) :
    (outsAt0 m c t.val t.isLt).2.1 (ix2 0 0) ≤ z ↔ 0 ≤ z ∧ ∀ (g : Fin 192) (K : Fin 7680), K.val / 512 = t.val →
      Gm (m ((c : Thread nD τ).loc main_arg0)) (m ((c : Thread nD τ).loc main_arg1)) (ix2 g K) ≤ z := by
  have hN : cfg0.N = 15 := by decide
  have hM := held m c t.val t.isLt
  rw [outsAt0_A m c t h0] at hM ⊢
  revert hM
  frame_out
  generalize k0_pay8 (F := Ideal) _ _ _ _ _ _ _ _ _ _ _ _ = M
  intro hM
  show k0_pay1 (runs M (iblk m c 1 t)) _ _ ≤ z ↔ _
  rw [coord, masked_le _ _ (hN ▸ t.isLt), runs_le m c t M hM z]
  rw [show (FloatOps.ofBits FTy.f32 0#32 : Ideal .f32) = 0 from by pointwise]
  exact ⟨fun h => h.2, fun h => ⟨h.1, h⟩⟩

/-- The number after a later point, over the one before. -/
theorem amax_later (c : Dev nD) (t : Fin cfg0.N) (h0 : ¬t.val % 15 = 0) (z : EReal) :
    (outsAt0 m c t.val t.isLt).2.1 (ix2 0 0) ≤ z ↔ (outsAt0 m c (t.val - 1) (Nat.lt_of_le_of_lt (Nat.sub_le _ _) t.isLt)).2.1 (ix2 0 0) ≤ z
      ∧ 0 ≤ z ∧ ∀ (g : Fin 192) (K : Fin 7680), K.val / 512 = t.val →
      Gm (m ((c : Thread nD τ).loc main_arg0)) (m ((c : Thread nD τ).loc main_arg1)) (ix2 g K) ≤ z := by
  have hN : cfg0.N = 15 := by decide
  have hM := held m c (t.val - 1) (Nat.lt_of_le_of_lt (Nat.sub_le _ _) t.isLt)
  rw [outsAt0_B m c t h0]
  frame_out
  simp only [read_unread_whole]
  generalize (outsAt0 m c (t.val - 1) _).2.2 = M at hM ⊢
  generalize (outsAt0 m c (t.val - 1) _).2.1 = A
  show k0_pay1 (runs M (iblk m c 1 t)) _ _ ≤ z ↔ _
  rw [coord, masked_le _ _ (hN ▸ t.isLt), runs_le m c t M hM z, one_ld]

/-- The number after a point. -/
theorem amax_le (c : Dev nD) (z : EReal) : ∀ (n : ℕ) (h : n < cfg0.N),
    (outsAt0 m c n h).2.1 (ix2 0 0) ≤ z ↔ 0 ≤ z ∧ ∀ (g : Fin 192) (K : Fin 7680), K.val / 512 ≤ n →
      Gm (m ((c : Thread nD τ).loc main_arg0)) (m ((c : Thread nD τ).loc main_arg1)) (ix2 g K) ≤ z := by
  have hN : cfg0.N = 15 := by decide
  intro n
  induction n with
  | zero =>
    intro h
    refine (amax_first m c ⟨0, h⟩ rfl z).trans (and_congr_right fun _ => forall_congr' fun g => forall_congr' fun K => ?_)
    show (K.val / 512 = 0 → _) ↔ (K.val / 512 ≤ 0 → _)
    rw [Nat.le_zero]
  | succ n ih =>
    intro h
    refine (amax_later m c ⟨n + 1, h⟩ (by show ¬ (n + 1) % 15 = 0; omega) z).trans ?_
    have ih' := ih (by omega)
    refine (and_congr_left fun _ => ih').trans ?_
    constructor
    · rintro ⟨⟨h0, h1⟩, -, h2⟩
      refine ⟨h0, fun g K hK => ?_⟩
      rcases Nat.lt_or_ge (K.val / 512) (n + 1) with hl | hl
      · exact h1 g K (by omega)
      · exact h2 g K (by show K.val / 512 = n + 1; omega)
    · rintro ⟨h0, h1⟩
      exact ⟨⟨h0, fun g K hK => h1 g K (by omega)⟩, h0, fun g K hK => h1 g K (by change K.val / 512 = n + 1 at hK; omega)⟩

/-- A largest magnitude is not negative. -/
theorem Gm_nonneg (σ : FVec Ideal S16 .f32) (x : FVec Ideal S3072x7680 .bf16) (i : S192x7680.Idx) : 0 ≤ Gm σ x i := by
  unfold Gm
  refine le_trans (b := FloatOps.absf (F := Ideal) (φ := .f32) (rot σ x (i 0) 0 (i 1))) ?_
    ((Finset.fold_max_le (f := fun p => FloatOps.absf (F := Ideal) (φ := .f32) (rot σ x (i 0) p (i 1))) _).1 le_rfl |>.2 0 (Finset.mem_univ _))
  show 0 ≤ max (rot σ x (i 0) 0 (i 1)) (-rot σ x (i 0) 0 (i 1))
  rcases le_total 0 (rot σ x (i 0) 0 (i 1)) with h | h
  · exact le_max_of_le_left h
  · exact le_max_of_le_right (by simpa using h)

/-- The largest magnitude after the run. -/
theorem amax (c : Dev nD) : (dats m 0 c).arrAt 3 cfg0.N = Ga (m ((c : Thread nD τ).loc main_arg0)) (m ((c : Thread nD τ).loc main_arg1)) := by
  have hN : cfg0.N = 15 := by decide
  refine (dats m 0 c).arrAt_eq_of_covers 3 _ (by decide +kernel) fun t hf y => ?_
  have ht : t.val = 14 := (by decide +kernel : ∀ t : Fin cfg0.N, (cfg0.win 3).flush t = true → t.val = 14) t hf
  blk_simp
  rw [after0_3]
  have e : y = ix2 0 0 := by
    funext a
    fin_cases a <;> exact Subsingleton.elim (α := Fin 1) _ _
  subst e
  refine eq_of_forall_ge_iff (α := EReal) fun z => ?_
  refine (amax_le m c z t.val t.isLt).trans ?_
  unfold Ga
  rw [Finset.fold_max_le, c_least]
  constructor
  · rintro ⟨-, h⟩
    exact ⟨bot_le, fun p _ => h p.1 p.2 (by omega)⟩
  · rintro ⟨-, h⟩
    exact ⟨le_trans (Gm_nonneg _ _ _) (h (0, 0) (Finset.mem_univ _)), fun g K _ => h (g, K) (Finset.mem_univ _)⟩

end Cert.Proof.AmaxDy

end
-- ==== Proof.AmaxDyRef.lean ====
/- THE BLOCK MAXIMA OF dy, THE REFERENCE. What the plain program leaves in its two result arrays: the same closed formulas. -/
module

public import proofs.«01_k».proof.Proof.AmaxDyBlock
public import proofs.«01_k».proof.Proof.Gen.AmaxDyRefIdeal.Run
public import Idealize.ShloMosaic.Lib.Pointwise

@[expose] public section

set_option maxRecDepth 16384

noncomputable section

namespace Cert.Proof.AmaxDyRef

open Cert.AmaxDyRefIdeal Cert.AmaxDyRefIdeal.Facts₀ Idealize.ShloMosaic Cert.Proof.Hadamard
open Cert.Proof.AmaxDy (rot Gm Ga)

/-- The rotated operand's magnitudes as the program composes them. -/
def magnitudes (σ : FVec Ideal S16 .f32) (x : FVec Ideal S3072x7680 .bf16) : FVec Ideal S192x16x7680 .f32 :=
  Host.absf (transpose S192x16x7680 [0, 2, 1] (Host.dotGeneral dot_S192x16x7680_S16x16_S192x7680x16_1_1_02_0_n_n (some .fp32) (shapeCast S192x16x7680 (extf .f32 x bitsLt_bf16_f32) shapeCasts_S3072x7680_S192x16x7680) (mulf (mulf (sitofp .f32 (subi (broadcastInDim S16x16 ![] bcast_S_S16x16 (constantI S_ 32 1#32)) (muli (broadcastInDim S16x16 ![] bcast_S_S16x16 (constantI S_ 32 2#32)) (andi (ctpop (andi (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0))))) (broadcastInDim S16x16 ![] bcast_S_S16x16 (constantI S_ 32 1#32)))))) (broadcastInDim S16x16 ![0, 1] bcast_S1x16_S16x16_0_1 (broadcastInDim S1x16 ![1] bcast_S16_S1x16_1 σ))) (broadcastInDim S16x16 ![] bcast_S_S16x16 (constant S_ .f32 0x3E800000#32)))) transposes_S192x7680x16_S192x16x7680_0_2_1)

/-- Their maxima over each group. -/
def groups (σ : FVec Ideal S16 .f32) (x : FVec Ideal S3072x7680 .bf16) : FVec Ideal S192x7680 .f32 :=
  Host.reduce FloatOps.maximumf (magnitudes σ x) (constant S_ .f32 0xFF800000#32) reducesTo_S192x16x7680_S192x7680_d1 h_S_

/-- The largest of those. -/
def all (σ : FVec Ideal S16 .f32) (x : FVec Ideal S3072x7680 .bf16) : FVec Ideal S1x1 .f32 :=
  shapeCast _ (Host.reduce FloatOps.maximumf (groups σ x) (constant S_ .f32 0xFF800000#32) reducesTo_S192x7680_S_d0_1 h_S_) shapeCasts_S_S1x1

theorem magnitudes_at (σ : FVec Ideal S16 .f32) (x : FVec Ideal S3072x7680 .bf16) (g : Fin 192) (i : Fin 16) (k : Fin 7680) :
    magnitudes σ x (ix3 g i k) = FloatOps.absf (F := Ideal) (φ := .f32) (rot σ x g i k) := by
  pointwise [magnitudes, rot, had]

theorem groups_eq (σ : FVec Ideal S16 .f32) (x : FVec Ideal S3072x7680 .bf16) : groups σ x = Gm σ x := by
  funext y
  obtain ⟨g, k, rfl⟩ : ∃ (g : Fin 192) (k : Fin 7680), y = ix2 g k := ⟨y 0, y 1, by funext a; fin_cases a <;> rfl⟩
  have h : ∀ V : FVec Ideal S192x16x7680 .f32, Host.reduce FloatOps.maximumf V (constant S_ .f32 0xFF800000#32)
      reducesTo_S192x16x7680_S192x7680_d1 h_S_ (ix2 g k)
      = Finset.fold max (Ideal.ofBits FTy.f32 4286578688#32) (fun i => V (ix3 g i k)) Finset.univ := by
    intro V
    pointwise []
  refine (h _).trans ?_
  simp only [magnitudes_at]
  rfl

theorem all_eq (σ : FVec Ideal S16 .f32) (x : FVec Ideal S3072x7680 .bf16) : all σ x = Ga σ x := by
  funext y
  have h : ∀ V : FVec Ideal S192x7680 .f32, (shapeCast S1x1 (Host.reduce FloatOps.maximumf V (constant S_ .f32 0xFF800000#32)
      reducesTo_S192x7680_S_d0_1 h_S_) shapeCasts_S_S1x1 : FVec Ideal S1x1 .f32) y
      = Finset.fold max (Ideal.ofBits FTy.f32 4286578688#32) (fun p : Fin 192 × Fin 7680 => V (ix2 p.1 p.2)) Finset.univ := by
    intro V
    pointwise []
  refine (h _).trans ?_
  rw [groups_eq]
  rfl

end Cert.Proof.AmaxDyRef

end
-- ==== Proof.DqRef.lean ====
/- THE SCALES OF dy, THE REFERENCE. The global scale and the block scales as formulas over the largest magnitudes, word for word,
   and what the plain program leaves in its two result arrays: those formulas. -/
module

public import proofs.«01_k».proof.Proof.Gen.DqRef.Value
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.DqRef

open Cert.DqRef Cert.DqRef.Gen Idealize.ShloMosaic Idealize.ShloMosaic.TcCoe Idealize.SL.Sem

/-- The global scale, from the largest magnitude. -/
def sg (s : Bits .f32) : Bits .f32 :=
  Scalar.select (Scalar.cmpf .ogt s (Scalar.ofBits .f32 0x00000000#32)) (Scalar.divf s (Scalar.ofBits .f32 0x45280000#32))
    (Scalar.ofBits .f32 0x3F800000#32)

/-- A block's scale, from the largest magnitude of all and of the block. -/
def sb (s a : Bits .f32) : Bits .fp8e4m3 :=
  FloatOps.truncf .fp8e4m3 (by decide) (FloatOps.minimumf (Scalar.ofBits .f32 0x43E00000#32)
    (FloatOps.maximumf (Scalar.ofBits .f32 0x00000000#32) (FloatOps.divf (FloatOps.divf a (Scalar.ofBits .f32 0x40C00000#32)) (sg s))))

/-- The block scales. -/
def Gb (s : FVec Bits S1x1 .f32) (a : FVec Bits S192x7680 .f32) : FVec Bits S192x7680 .fp8e4m3 := fun i => sb (s (ix2 0 0)) (a i)

/-- The global scale. -/
def Gs (s : FVec Bits S1x1 .f32) : FVec Bits S1 .f32 := fun _ => sg (s (ix2 0 0))

variable (m : (ℓ : Loc nD τ sig) → Buf (Elt Bits) ℓ)

/-- Every window is the whole of its array. -/
theorem idx : ∀ t : Fin cfg0.N, win0_0.index t = ![0, 0] ∧ win0_1.index t = ![0, 0] ∧ win0_2.index t = ![0, 0] ∧ win0_3.index t = ![0] :=
  (by decide +kernel : ∀ t : Fin grid0.N, _)

theorem amax_first (c : Dev nD) (t : Fin cfg0.N) (h) :
    iblk m c 0 t (Shape.Idx.first h) = (m ((c : Thread nD τ).loc main_arg1) : FVec Bits S1x1 .f32) (ix2 0 0) := by
  obtain ⟨e0, e1, e2, e3⟩ := idx t
  have e : (Shape.Idx.first h : S1x1.Idx) = ix2 0 0 := by
    funext a
    fin_cases a <;> exact Subsingleton.elim (α := Fin 1) _ _
  rw [e]
  blk_simp [iblk, V]
  blk_ext [iblk, V, e0]

theorem pay2_at (s : Bits .f32) (a : FVec Bits S192x7680 .f32) (y : S192x7680.Idx) : k0_pay2 s a y = sb s (a y) := rfl

/-- The block scales after the run. -/
theorem scales (c : Dev nD) : (dats m 0 c).arrAt 2 cfg0.N =
    Gb (m ((c : Thread nD τ).loc main_arg1)) (m ((c : Thread nD τ).loc main_arg4)) := by
  refine (dats m 0 c).arrAt_eq_of_covers 2 _ (by decide +kernel) fun t hf y => ?_
  obtain ⟨e0, e1, e2, e3⟩ := idx t
  blk_simp
  rw [after0_2]
  unfold outsAt0
  frame_out
  simp only [read_unread_whole]
  rw [amax_first]
  refine (pay2_at _ _ _).trans ?_
  unfold Gb
  blk_point [iblk, V, e1, e2]

/-- The global scale after the run. -/
theorem gscale (c : Dev nD) : (dats m 0 c).arrAt 3 cfg0.N = Gs (m ((c : Thread nD τ).loc main_arg1)) := by
  refine (dats m 0 c).arrAt_eq_of_covers 3 _ (by decide +kernel) fun t hf y => ?_
  obtain ⟨e0, e1, e2, e3⟩ := idx t
  blk_simp
  rw [after0_3]
  unfold outsAt0
  frame_out
  simp only [read_unread_whole]
  rw [amax_first]
  rfl

end Cert.Proof.DqRef

end
-- ==== Proof.Dq.lean ====
/- THE SCALES OF dy, THE KERNEL. What the whole quantising call for dy leaves in its arrays of scales, bit for bit: at every grid
   point the block of scales is the formula at the block's place, the blocks cover the array, and the global scale is the formula at
   the largest magnitude. -/
module

public import proofs.«01_k».proof.Proof.Gen.Dq.Value
public import proofs.«01_k».proof.Proof.DqRef
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.Dq

open Cert.Dq Cert.Dq.Gen Idealize.ShloMosaic Idealize.ShloMosaic.TcCoe Idealize.SL.Sem
open Cert.Proof.DqRef (sg sb Gb Gs)

variable (m : (ℓ : Loc nD τ sig) → Buf (Elt Bits) ℓ)

/-- Where the windows of the maxima and the scales stand at each grid point. -/
theorem idx : ∀ t : Fin cfg0.N, win0_1.index t = ![0, 0] ∧ win0_4.index t = ![t.val % 6, t.val / 6] ∧ win0_6.index t = ![t.val % 6, t.val / 6]
    ∧ win0_7.index t = ![0] :=
  (by decide +kernel : ∀ t : Fin grid0.N, _)

theorem amax_eq (c : Dev nD) (t : Fin cfg0.N) : iblk m c 1 t = m ((c : Thread nD τ).loc main_arg1) := by
  obtain ⟨e1, e4, e6, e7⟩ := idx t
  funext y
  blk_simp [iblk, V]
  blk_ext [iblk, V, e1]

/-- The largest magnitude as the body loads it, at every grid point. -/
theorem amax_ld (c : Dev nD) (t : Fin cfg0.N) (inb) (h) :
    View.ld (iblk m c 1 t) (Rect.unit (s := S1x1) ![0, 0] ![1, 1] inb) (Shape.Idx.first h) =
      (m ((c : Thread nD τ).loc main_arg1) : FVec Bits S1x1 .f32) (ix2 0 0) := by
  rw [View.ld_apply, amax_eq]
  congr 1
  funext a
  fin_cases a <;> exact Subsingleton.elim (α := Fin 1) _ _

theorem pay2_at (s : Bits .f32) (a : FVec Bits S32x512 .f32) (y : S32x512.Idx) : k0_pay2 s a y = sb s (a y) := rfl

/-- The block scales after the run. -/
theorem scales (c : Dev nD) : (dats m 0 c).arrAt 6 cfg0.N =
    Gb (m ((c : Thread nD τ).loc main_arg1)) (m ((c : Thread nD τ).loc main_arg4)) := by
  refine (dats m 0 c).arrAt_eq_of_covers 6 _ (by decide +kernel) fun t hf y => ?_
  obtain ⟨e1, e4, e6, e7⟩ := idx t
  blk_simp
  rw [after0_6]
  unfold outsAt0
  frame_out
  rw [amax_ld]
  refine (pay2_at _ _ _).trans ?_
  unfold Gb
  blk_point [iblk, V, e4, e6]

/-- The global scale after the run. -/
theorem gscale (c : Dev nD) : (dats m 0 c).arrAt 7 cfg0.N = Gs (m ((c : Thread nD τ).loc main_arg1)) := by
  refine (dats m 0 c).arrAt_eq_of_covers 7 _ (by decide +kernel) fun t hf y => ?_
  obtain ⟨e1, e4, e6, e7⟩ := idx t
  blk_simp
  rw [after0_7]
  unfold outsAt0
  frame_out
  rw [amax_ld]
  rfl

end Cert.Proof.Dq

end
-- ==== Proof.AmaxXRun.lean ====
/- THE BLOCK MAXIMA OF x, WHAT ITS RUNS SHARE, over the machine's words. The last block of 256 columns overhangs the array, so its certificate is written here by hand:
   the region's entry, the windows' blocks, the condition the body branches on and its staging buffers. -/
module

public import proofs.«01_k».proof.Proof.Gen.AmaxX.Launch
public import proofs.«01_k».proof.Proof.Gen.AmaxX.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Frame

@[expose] public section

set_option maxRecDepth 16384

noncomputable section

namespace Cert.Proof.AmaxXRun

open Cert.AmaxX Cert.AmaxX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 1 (operand 1 (%arg1)) is fetched at every point. -/
theorem fetch0_1 : ∀ t : Fin cfg0.N, (cfg0.win 1).fetch t = true :=
  (fun t => (Pipeline.Window.fetch_reads win0_1 rfl 0 (by decide) (by decide) (Pipeline.Window.sep_of_coord cc0_transform_1 0 1 (fun _ => rfl) (by decide)) (P := 1) (by decide) t).mpr (Nat.mod_one _) : ∀ t : Fin grid0.N, win0_1.fetch t = true)

/-- The kernel body at point `t`, on what the pipeline calls it with (`defs₀`'s row at the slots). -/
abbrev bodyAt0 (t : Fin cfg0.N) : Prog (TpuEff nD τ sig (Elt F) Λ₀ .tc) PUnit :=
  cc0_amax (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-! ## The kernel body on any staging memrefs: a subtype the run finds -/

/-- One staging buffer of output window 2, through which its contents are stated (`View.read_writes_of_cover`: the
    choice does not matter). -/
abbrev VO0_2 : View sig .tc .vmem S192x256 .f32 := (Memref.whole cc0_stg2_0 : Memref sig .tc .vmem S192x256 .f32).view
/-- One staging buffer of output window 3, through which its contents are stated (`View.read_writes_of_cover`: the
    choice does not matter). -/
abbrev VO0_3 : View sig .tc .smem S1x1 .f32 := (Memref.whole cc0_stg3_0 : Memref sig .tc .smem S1x1 .f32).view
/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x256 .bf16 := Memref.whole cc0_scratch0
/-- The scratch `arg5` the kernel carries between points, as a view: what it holds is stated through it. -/
abbrev VS0_0 : View sig .tc .vmem S256x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Proof.AmaxXRun

end
-- ==== Proof.AmaxXRunA.lean ====
/- THE BLOCK MAXIMA OF x, THE BODY'S RUN AT THE FIRST POINT, over the machine's words: the pieces its stores leave in each buffer. -/
module

public import proofs.«01_k».proof.Proof.AmaxXRun

@[expose] public section

set_option maxRecDepth 16384

noncomputable section

namespace Cert.Proof.AmaxXRun

open Cert.AmaxX Cert.AmaxX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : cond0_0 i)
    (x0 : Vec F S16 .f32) (x1 : Vec F S3072x256 .bf16) :
    Σ' (L2 : List (View.Piece (Elt F) S192x256 .f32)), Σ' (L3 : List (View.Piece (Elt F) S1x1 .f32)), { LS0 : List (View.Piece (Elt F) S256x256 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_amax i arg1 harg1 arg2 harg2 arg3 harg3 arg4 harg4 arg5 harg5) K } := by
  refine ⟨?_, ?_, ?_, fun E K => ?run⟩
  case run =>
    simp only [cc0_amax_eq_skeleton]; unfold cc0_amax_skel
    simp only [k0_part26_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.Proof.AmaxXRun

end
-- ==== Proof.AmaxXRunB.lean ====
/- THE BLOCK MAXIMA OF x, THE BODY'S RUN AT A LATER POINT, over the machine's words: the pieces its stores leave in each buffer. -/
module

public import proofs.«01_k».proof.Proof.AmaxXRunA

@[expose] public section

set_option maxRecDepth 16384

noncomputable section

namespace Cert.Proof.AmaxXRun

open Cert.AmaxX Cert.AmaxX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 11: 11 of 12), WITH the
    proof that on whole staging memrefs — the inputs' at their contents, the outputs it reads before covering (3) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : ¬cond0_0 i)
    (x0 : Vec F S16 .f32) (x1 : Vec F S3072x256 .bf16) (xo3 : Vec F S1x1 .f32) (xs0 : Vec F S256x256 .bf16) :
    Σ' (L2 : List (View.Piece (Elt F) S192x256 .f32)), Σ' (L3 : List (View.Piece (Elt F) S1x1 .f32)), { LS0 : List (View.Piece (Elt F) S256x256 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xs0) -∗ K ⟨⟩))
          ⊢ wp frame (wpE (defs₀ (F := F)) Variants.none c none) E (cc0_amax i arg1 harg1 arg2 harg2 arg3 harg3 arg4 harg4 arg5 harg5) K } := by
  refine ⟨?_, ?_, [], fun E K => ?run⟩
  case run =>
    simp only [cc0_amax_eq_skeleton]; unfold cc0_amax_skel
    simp only [k0_part26_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; isplitr; · ipureintro; exact harg5.read_unread _
    iexact HS0

end Cert.Proof.AmaxXRun

end
-- ==== Proof.AmaxXFrame.lean ====
/- THE BLOCK MAXIMA OF x, THE FRAME, at any values: the call ends, leaves its arguments alone and every counter at zero. Of the two
   results nothing is said here: at the last point the body reads columns of its buffer that lie outside the array, whose bits are
   not determined. -/
module

public import proofs.«01_k».proof.Proof.AmaxXRunB

@[expose] public section

set_option maxRecDepth 16384

noncomputable section

namespace Cert.Proof.AmaxXRun

open Cert.AmaxX Cert.AmaxX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The windows nothing is said of: the two results. -/
abbrev fgt (w : Fin cfg0.W) : Bool := match w with
  | ⟨2, _⟩ => true
  | ⟨3, _⟩ => true
  | _ => false

/-- What the body finds and leaves, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (Dat.unnamed (cfg := cfg0) 1 t) (iblk m c 1 t)
    | ⟨2, _⟩ => Dat.unnamed (cfg := cfg0) 2 t
    | ⟨3, _⟩ => Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = win0_1.fill (grid0.coords t) (Dat.unnamed (cfg := cfg0) 1 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = win0_1.fill (grid0.coords t) d (iblk m c 1 t) := by
  unfold Pipeline.Dat.before
  rw [if_pos (fetch0_1 t)]
  unfold Pipeline.Dat.fetched Pipeline.Dat.blockOf iblk
  rw [A_eq]

/-- What the body is called with, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ X, owns (c : Thread nD τ) (ms0_2 t) fullShare X)
    ∗ (∃ X, owns (c : Thread nD τ) (ms0_3 t) fullShare X))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d (win0_1.cut (grid0.coords t) ((dats m 0 c).after 1 t))))
    ∗ (∃ X, owns (c : Thread nD τ) (ms0_2 t) fullShare X)
    ∗ (∃ X, owns (c : Thread nD τ) (ms0_3 t) fullShare X))

/-- The operand's buffer at a point. -/
abbrev buf (c : Dev nD) (t : Fin cfg0.N) (d : Vec F S3072x256 .bf16) : Vec F S3072x256 .bf16 := win0_1.fill (grid0.coords t) d (iblk m c 1 t)

/-- The operand's buffer, left as found. -/
theorem left1 (c : Dev nD) (t : Fin cfg0.N) (d) : win0_1.fill (grid0.coords t) d (win0_1.cut (grid0.coords t) ((dats m 0 c).after 1 t))
    = win0_1.fill (grid0.coords t) d (iblk m c 1 t) := by
  rw [after0_1, Pipeline.Window.cut_fill]

/-- The operand's buffer, handed back as found. -/
theorem ret1 (c : Dev nD) (t : Fin cfg0.N) (d : Vec F S3072x256 .bf16) :
    (owns (c : Thread nD τ) (ms0_1 t) fullShare (buf m c t d) : sProp (MT nD τ sig Unit (Elt F) ℕ (UR sig nD τ) ℕ))
    ⊢ iprop(∃ d, owns (c : Thread nD τ) (ms0_1 t) fullShare (win0_1.fill (grid0.coords t) d (win0_1.cut (grid0.coords t) ((dats m 0 c).after 1 t)))) := by
  have e : buf m c t d = win0_1.fill (grid0.coords t) d (win0_1.cut (grid0.coords t) ((dats m 0 c).after 1 t)) := (left1 m c t d).symm
  generalize buf m c t d = X at e ⊢
  rw [e]
  iintro H
  iexists d; iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, after0_0]
  rw [show (dats m 0 c).Φ t.succ = Pipeline.ΦA spec0 c from rfl, show (dats m 0 c).Φ t.castSucc = Pipeline.ΦA spec0 c from rfl, PhiA0_eq]
  by_cases hc0 : cond0_0 (grid0.coords t)
  · iintro ⟨⟨⟨%M, HS0⟩, Hg⟩, Ho, ⟨%d0, H0⟩, ⟨%d1, H1⟩, ⟨%X2, H2⟩, ⟨%X3, H3⟩⟩
    iapply ((kernelRun0_A c (grid0.coords t) (ms0_0 t) (hs0_0 t) (ms0_1 t) (hs0_1 t) (ms0_2 t) (hs0_2 t) (ms0_3 t) (hs0_3 t) scM0_0 (Memref.isWhole_whole _) hc0 (iblk m c 0 t) (buf m c t d1)).2.2.2 Set.univ _)
    isplitl [H0]; · iexact H0
    isplitl [H1]; · iexact H1
    isplitl [H2]; · iexists _; iexact H2
    isplitl [H3]; · iexists _; iexact H3
    isplitl [HS0]; · iexists _; iexact HS0
    iintro ⟨H0, H1, ⟨%e2, H2⟩, ⟨%e3, H3⟩, ⟨%es0, HS0⟩⟩
    isplitl [HS0 Hg]
    · isplitl [HS0]
      · unfold owns; iexists _; iexists _; isplitr
        swap; · iexact HS0
        ipureintro; rfl
      iexact Hg
    isplitl [Ho]; · iexact Ho
    isplitl [H0]; · iexact H0
    isplitl [H1]; · iapply (ret1 m c t d1); iexact H1
    isplitl [H2]
    · unfold owns; iexists _; iexists _; isplitr
      swap; · iexact H2
      ipureintro; rfl
    unfold owns; iexists _; iexists _; isplitr
    swap; · iexact H3
    ipureintro; rfl
  · iintro ⟨⟨⟨%M, HS0⟩, Hg⟩, Ho, ⟨%d0, H0⟩, ⟨%d1, H1⟩, ⟨%X2, H2⟩, ⟨%X3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) hc0 (iblk m c 0 t) (buf m c t d1) X3 M).2.2.2 Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, ⟨%e3, H3⟩, HS0⟩
    isplitl [HS0 Hg]
    · isplitl [HS0]
      · iexists M; iexact HS0
      iexact Hg
    isplitl [Ho]; · iexact Ho
    isplitl [H0]; · iexact H0
    isplitl [H1]; · iapply (ret1 m c t d1); iexact H1
    isplitl [H2]
    · unfold owns; iexists _; iexists _; isplitr
      swap; · iexact H2
      ipureintro; rfl
    unfold owns; iexists _; iexists _; isplitr
    swap; · iexact H3
    ipureintro; rfl

/-- The body table's row is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: each argument's array as found, every counter at zero. -/
theorem run_main : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c))⟩, h.2⟩) (run_main m ρ)

end Cert.Proof.AmaxXRun

end
-- ==== Proof.AmaxXBlock.lean ====
/- THE BLOCK MAXIMA OF x, ONE BLOCK. The largest magnitudes of the rotated x as closed formulas over the operands (`Gm` per group
   and column, `Ga` of all), and what one block of rows gives, given that the held matrix is the block-diagonal one. -/
module

public import proofs.«01_k».proof.Proof.Hadamard
public import proofs.«01_k».proof.Proof.Gen.AmaxXIdeal.Skeleton
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.AmaxX

open Cert.AmaxXIdeal Cert.AmaxXIdeal.Gen Idealize.ShloMosaic Idealize.ShloMosaic.TcCoe Idealize.SL.Sem Cert.Proof.Code Cert.Proof.Hadamard

/-- The word of minus infinity is the least number. -/
theorem c_least : Ideal.ofBits FTy.f32 4286578688#32 = ⊥ := by
  simp [Ideal.ofBits, Ideal.ieee]

/-- The rotated operand: group `g`, row `i` of the group, column `k`. -/
def rot (σ : FVec Ideal S16 .f32) (x : FVec Ideal S3072x2880 .bf16) (g : Fin 192) (i : Fin 16) (k : Fin 2880) : EReal :=
  ∑ j : Fin 16, x (ix2 ⟨g.val * 16 + j.val, by omega⟩ k) * had i j (σ (ix1 j))

/-- The largest magnitude of a group's column. -/
def Gm (σ : FVec Ideal S16 .f32) (x : FVec Ideal S3072x2880 .bf16) : FVec Ideal S192x2880 .f32 := fun p =>
  Finset.fold max (Ideal.ofBits FTy.f32 4286578688#32) (fun i => FloatOps.absf (F := Ideal) (φ := .f32) (rot σ x (p 0) i (p 1))) Finset.univ

/-- The largest magnitude of all. -/
def Ga (σ : FVec Ideal S16 .f32) (x : FVec Ideal S3072x2880 .bf16) : FVec Ideal S1x1 .f32 := fun _ =>
  Finset.fold max (Ideal.ofBits FTy.f32 4286578688#32) (fun p : Fin 192 × Fin 2880 => Gm σ x (ix2 p.1 p.2)) Finset.univ

/-- Sixteen numbers' maximum, taken one after the other. -/
theorem nest16 (f : Fin 16 → EReal) : max (max (max (max (max (max (max (max (max (max (max (max (max (max (max (f 0) (f 1)) (f 2)) (f 3)) (f 4)) (f 5)) (f 6)) (f 7)) (f 8)) (f 9)) (f 10)) (f 11)) (f 12)) (f 13)) (f 14)) (f 15)
    = Finset.fold max (Ideal.ofBits FTy.f32 4286578688#32) f Finset.univ := by
  refine eq_of_forall_ge_iff fun z => ?_
  rw [Finset.fold_max_le, c_least]
  simp only [max_le_iff]
  constructor
  · intro h
    refine ⟨bot_le, fun i _ => ?_⟩
    fin_cases i <;> first | exact h.2 | tauto
  · rintro ⟨-, h⟩
    have h' := fun i => h i (Finset.mem_univ i)
    simp only [h', and_self]

/-- Twenty-four numbers' and zero's maximum, taken one after the other. -/
theorem nest24 (f : Fin 24 → EReal) (z : EReal) : max (max (max (max (max (max (max (max (max (max (max (max (max (max (max (max (max (max (max (max (max (max (max (max (0) (f 0)) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23) ≤ z
    ↔ 0 ≤ z ∧ ∀ q, f q ≤ z := by
  simp only [max_le_iff]
  constructor
  · intro h
    refine ⟨by tauto, fun i => ?_⟩
    fin_cases i <;> first | exact h.2 | tauto
  · rintro ⟨h0, h⟩
    simp only [h, h0, and_self]

/-! ## Half a block of 256 rows -/

/-- The held matrix is the block-diagonal one, its rows in the order that keeps eight groups side by side. -/
def Held (σ : Fin 16 → EReal) (M : Vec Ideal S256x256 .bf16) : Prop :=
  ∀ q l : Fin 256, M (ix2 q l) = entry σ ⟨q.val / 128 * 8 + q.val % 8, by omega⟩ ⟨q.val / 8 % 16, by omega⟩ l

/-- The first eight groups' largest magnitudes, and the last eight groups'. -/
def lo (M : Vec Ideal S256x256 .bf16) (x : Vec Ideal S256x256 .bf16) : FVec Ideal S8x256 .f32 := k0_pay18 M x
def hi (M : Vec Ideal S256x256 .bf16) (x : Vec Ideal S256x256 .bf16) : FVec Ideal S8x256 .f32 := k0_pay19 (k0_pay17 M x)

variable (M : Vec Ideal S256x256 .bf16) (x : Vec Ideal S256x256 .bf16) (σ : Fin 16 → EReal)

/-- A row of the held matrix times a column: the group's rotated number. -/
theorem row_at (hM : Held σ M) (k : Fin 256) (r : Fin 8) (h : ℕ) (hh : h < 2) (i : Fin 16) (q : Fin 256) (hq : q.val = h * 128 + i.val * 8 + r.val) :
    ∑ l, M (ix2 q l) * x (ix2 l k) = ∑ j : Fin 16, x (ix2 ⟨(h * 8 + r.val) * 16 + j.val, by omega⟩ k) * had i j (σ j) := by
  have e1 : (⟨q.val / 128 * 8 + q.val % 8, by omega⟩ : Fin 16) = ⟨h * 8 + r.val, by omega⟩ := Fin.ext (by show q.val / 128 * 8 + q.val % 8 = h * 8 + r.val; omega)
  have e2 : (⟨q.val / 8 % 16, by omega⟩ : Fin 16) = i := Fin.ext (by show q.val / 8 % 16 = i.val; omega)
  have h3 := block_sum σ ⟨h * 8 + r.val, by omega⟩ i (fun l => x (ix2 l k))
  refine Eq.trans ?_ h3
  exact Finset.sum_congr rfl fun l _ => by rw [hM q l, e1, e2]

/-- The largest magnitude of the group in row `r` of a half. -/
def half (h : ℕ) (hh : h < 2) (r : Fin 8) (k : Fin 256) : EReal :=
  Finset.fold max (Ideal.ofBits FTy.f32 4286578688#32)
    (fun i => FloatOps.absf (F := Ideal) (φ := .f32) (∑ j : Fin 16, x (ix2 ⟨(h * 8 + r.val) * 16 + j.val, by omega⟩ k) * had i j (σ j))) Finset.univ

theorem lo_at (hM : Held σ M) (r : Fin 8) (k : Fin 256) : lo M x (ix2 r k) = half x σ 0 (by omega) r k := by
  have key : ∀ f : Fin 16 → EReal, (∀ i, f i = FloatOps.absf (F := Ideal) (φ := .f32)
      (∑ j : Fin 16, x (ix2 ⟨(0 * 8 + r.val) * 16 + j.val, by omega⟩ k) * had i j (σ j)))
      → lo M x (ix2 r k) = Finset.fold max (Ideal.ofBits FTy.f32 4286578688#32) f Finset.univ := by
    intro f hf
    rw [← nest16]
    pointwise [lo, k0_pay18, k0_pay17]
    iterate 15 refine congrArg₂ max ?_ ((congrArg _ (row_at M x σ hM k r 0 (by omega) _ _ ?_)).trans (hf _).symm)
    refine (congrArg _ (row_at M x σ hM k r 0 (by omega) _ _ ?_)).trans (hf _).symm
    all_goals simp
  exact key _ fun _ => rfl

theorem hi_at (hM : Held σ M) (r : Fin 8) (k : Fin 256) : hi M x (ix2 r k) = half x σ 1 (by omega) r k := by
  have key : ∀ f : Fin 16 → EReal, (∀ i, f i = FloatOps.absf (F := Ideal) (φ := .f32)
      (∑ j : Fin 16, x (ix2 ⟨(1 * 8 + r.val) * 16 + j.val, by omega⟩ k) * had i j (σ j)))
      → hi M x (ix2 r k) = Finset.fold max (Ideal.ofBits FTy.f32 4286578688#32) f Finset.univ := by
    intro f hf
    rw [← nest16]
    pointwise [hi, k0_pay19, k0_pay17]
    iterate 15 refine congrArg₂ max ?_ ((congrArg _ (row_at M x σ hM k r 1 (by omega) _ _ ?_)).trans (hf _).symm)
    refine (congrArg _ (row_at M x σ hM k r 1 (by omega) _ _ ?_)).trans (hf _).symm
    all_goals simp
  exact key _ fun _ => rfl

/-- The running maximum over a point's twenty-four half blocks. -/
def runs (X : Vec Ideal S3072x256 .bf16) : FVec Ideal S8x256 .f32 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (k0_pay9) (lo M (View.ld X (Rect.unit ![0, 0] ![256, 256] inb_S3072x256_S256x256_0_0)))) (hi M (View.ld X (Rect.unit ![0, 0] ![256, 256] inb_S3072x256_S256x256_0_0)))) (lo M (View.ld X (Rect.unit ![256, 0] ![256, 256] inb_S3072x256_S256x256_256_0)))) (hi M (View.ld X (Rect.unit ![256, 0] ![256, 256] inb_S3072x256_S256x256_256_0)))) (lo M (View.ld X (Rect.unit ![512, 0] ![256, 256] inb_S3072x256_S256x256_512_0)))) (hi M (View.ld X (Rect.unit ![512, 0] ![256, 256] inb_S3072x256_S256x256_512_0)))) (lo M (View.ld X (Rect.unit ![768, 0] ![256, 256] inb_S3072x256_S256x256_768_0)))) (hi M (View.ld X (Rect.unit ![768, 0] ![256, 256] inb_S3072x256_S256x256_768_0)))) (lo M (View.ld X (Rect.unit ![1024, 0] ![256, 256] inb_S3072x256_S256x256_1024_0)))) (hi M (View.ld X (Rect.unit ![1024, 0] ![256, 256] inb_S3072x256_S256x256_1024_0)))) (lo M (View.ld X (Rect.unit ![1280, 0] ![256, 256] inb_S3072x256_S256x256_1280_0)))) (hi M (View.ld X (Rect.unit ![1280, 0] ![256, 256] inb_S3072x256_S256x256_1280_0)))) (lo M (View.ld X (Rect.unit ![1536, 0] ![256, 256] inb_S3072x256_S256x256_1536_0)))) (hi M (View.ld X (Rect.unit ![1536, 0] ![256, 256] inb_S3072x256_S256x256_1536_0)))) (lo M (View.ld X (Rect.unit ![1792, 0] ![256, 256] inb_S3072x256_S256x256_1792_0)))) (hi M (View.ld X (Rect.unit ![1792, 0] ![256, 256] inb_S3072x256_S256x256_1792_0)))) (lo M (View.ld X (Rect.unit ![2048, 0] ![256, 256] inb_S3072x256_S256x256_2048_0)))) (hi M (View.ld X (Rect.unit ![2048, 0] ![256, 256] inb_S3072x256_S256x256_2048_0)))) (lo M (View.ld X (Rect.unit ![2304, 0] ![256, 256] inb_S3072x256_S256x256_2304_0)))) (hi M (View.ld X (Rect.unit ![2304, 0] ![256, 256] inb_S3072x256_S256x256_2304_0)))) (lo M (View.ld X (Rect.unit ![2560, 0] ![256, 256] inb_S3072x256_S256x256_2560_0)))) (hi M (View.ld X (Rect.unit ![2560, 0] ![256, 256] inb_S3072x256_S256x256_2560_0)))) (lo M (View.ld X (Rect.unit ![2816, 0] ![256, 256] inb_S3072x256_S256x256_2816_0)))) (hi M (View.ld X (Rect.unit ![2816, 0] ![256, 256] inb_S3072x256_S256x256_2816_0)))

/-- The body's last step, bounded: the number before, and the running maximum's columns inside the array. -/
theorem masked_le (R : FVec Ideal S8x256 .f32) (t : ℕ) (ht : t < 12) (p z : EReal) (hz : p ≤ z → 0 ≤ z) :
    k0_pay1 R (k0_pay96 (BitVec.ofNat 32 t)) p ≤ z ↔ p ≤ z ∧ ∀ (r : Fin 8) (k : Fin 256), t * 256 + k.val < 2880 → R (ix2 r k) ≤ z := by
  have hmask : ∀ (t : Fin 12) (k : Fin 256), IntOp.cmpi CmpIPredicate.slt (IntOp.addi (BitVec.ofNat 32 k.val) (Scalar.muli (BitVec.ofNat 32 t.val) 256#32)) 2880#32 = 1#1 ↔ t.val * 256 + k.val < 2880 := by
    decide +kernel
  have h' := hmask ⟨t, ht⟩
  dsimp only at h'
  have h0 : (FloatOps.ofBits FTy.f32 0#32 : Ideal .f32) = 0 := by pointwise
  pointwise [k0_pay1, k0_pay96]
  simp only [h', Scalar.select, max_le_iff, Finset.fold_max_le, c_least]
  constructor
  · rintro ⟨hp, -, h⟩
    refine ⟨hp, fun r k hk => ?_⟩
    have := h (r, k) (Finset.mem_univ _)
    split at this
    · exact this
    · exact absurd ((h' k).2 hk) (by assumption)
  · rintro ⟨hp, h⟩
    refine ⟨hp, bot_le, fun p _ => ?_⟩
    split
    · exact h p.1 p.2 ((h' p.2).1 (by assumption))
    · simpa using hz hp

end Cert.Proof.AmaxX

end
-- ==== Proof.AmaxXIdealRun.lean ====
/- THE BLOCK MAXIMA OF x, WHAT ITS RUNS SHARE, over the extended reals. The last block of 256 columns overhangs the array, so its certificate is written here by hand:
   the region's entry, the windows' blocks, the condition the body branches on and its staging buffers. -/
module

public import proofs.«01_k».proof.Proof.Gen.AmaxXIdeal.Launch
public import proofs.«01_k».proof.Proof.Gen.AmaxXIdeal.Skeleton
public import proofs.«01_k».proof.Proof.Gen.AmaxXIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Frame

@[expose] public section

set_option maxRecDepth 16384

noncomputable section

namespace Cert.Proof.AmaxXIdealRun

open Cert.AmaxXIdeal Cert.AmaxXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-! ## The kernel body on any staging memrefs: a subtype the run finds -/

/-- One staging buffer of output window 2, through which its contents are stated (`View.read_writes_of_cover`: the
    choice does not matter). -/
abbrev VO0_2 : View sig .tc .vmem S192x256 .f32 := (Memref.whole cc0_stg2_0 : Memref sig .tc .vmem S192x256 .f32).view
/-- One staging buffer of output window 3, through which its contents are stated (`View.read_writes_of_cover`: the
    choice does not matter). -/
abbrev VO0_3 : View sig .tc .smem S1x1 .f32 := (Memref.whole cc0_stg3_0 : Memref sig .tc .smem S1x1 .f32).view
/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x256 .bf16 := Memref.whole cc0_scratch0
/-- The scratch `arg5` the kernel carries between points, as a view: what it holds is stated through it. -/
abbrev VS0_0 : View sig .tc .vmem S256x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Proof.AmaxXIdealRun

end
-- ==== Proof.AmaxXIdealRunA.lean ====
/- THE BLOCK MAXIMA OF x, THE BODY'S RUN AT THE FIRST POINT, over the extended reals: the pieces its stores leave in each buffer. -/
module

public import proofs.«01_k».proof.Proof.AmaxXIdealRun

@[expose] public section

set_option maxRecDepth 16384

noncomputable section

namespace Cert.Proof.AmaxXIdealRun

open Cert.AmaxXIdeal Cert.AmaxXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : cond0_0 i)
    (x0 : Vec F S16 .f32) (x1 : Vec F S3072x256 .bf16) :
    Σ' (L2 : List (View.Piece (Elt F) S192x256 .f32)), Σ' (L3 : List (View.Piece (Elt F) S1x1 .f32)), { LS0 : List (View.Piece (Elt F) S256x256 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_amax i arg1 harg1 arg2 harg2 arg3 harg3 arg4 harg4 arg5 harg5) K } := by
  refine ⟨?_, ?_, ?_, fun E K => ?run⟩
  case run =>
    simp only [cc0_amax_eq_skeleton]; unfold cc0_amax_skel
    simp only [k0_part26_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.Proof.AmaxXIdealRun

end
-- ==== Proof.AmaxXIdealRunB.lean ====
/- THE BLOCK MAXIMA OF x, THE BODY'S RUN AT A LATER POINT, over the extended reals: the pieces its stores leave in each buffer. -/
module

public import proofs.«01_k».proof.Proof.AmaxXIdealRunA

@[expose] public section

set_option maxRecDepth 16384

noncomputable section

namespace Cert.Proof.AmaxXIdealRun

open Cert.AmaxXIdeal Cert.AmaxXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 11: 11 of 12), WITH the
    proof that on whole staging memrefs — the inputs' at their contents, the outputs it reads before covering (3) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : ¬cond0_0 i)
    (x0 : Vec F S16 .f32) (x1 : Vec F S3072x256 .bf16) (xo3 : Vec F S1x1 .f32) (xs0 : Vec F S256x256 .bf16) :
    Σ' (L2 : List (View.Piece (Elt F) S192x256 .f32)), Σ' (L3 : List (View.Piece (Elt F) S1x1 .f32)), { LS0 : List (View.Piece (Elt F) S256x256 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xs0) -∗ K ⟨⟩))
          ⊢ wp frame (wpE (defs₀ (F := F)) Variants.none c none) E (cc0_amax i arg1 harg1 arg2 harg2 arg3 harg3 arg4 harg4 arg5 harg5) K } := by
  refine ⟨?_, ?_, [], fun E K => ?run⟩
  case run =>
    simp only [cc0_amax_eq_skeleton]; unfold cc0_amax_skel
    simp only [k0_part26_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; isplitr; · ipureintro; exact harg5.read_unread _
    iexact HS0

end Cert.Proof.AmaxXIdealRun

end
-- ==== Proof.AmaxXIdealRunOut.lean ====
/- THE BLOCK MAXIMA OF x, WHAT THE BODY LEAVES in its result buffers and its scratch, over the extended reals. -/
module

public import proofs.«01_k».proof.Proof.AmaxXIdealRunB

@[expose] public section

set_option maxRecDepth 16384

noncomputable section

namespace Cert.Proof.AmaxXIdealRun

open Cert.AmaxXIdeal Cert.AmaxXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 2 tile its block (24 stores of `S8x256`, checked by the kernel's evaluation: Lib/Ring.lean `Piece.tiledL`, linear in the pieces, through a loop's `@[irreducible]` trip theorem too), so they cover it. -/
theorem cover0_A_2 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : cond0_0 i)
    (x0 : Vec F S16 .f32) (x1 : Vec F S3072x256 .bf16) (y : S192x256.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S8x256.size (by sl_kernel_rfl) y

/-- What case A leaves in output 2's staging buffer: its pieces read back over junk. -/
def out0_A_2 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : cond0_0 i)
    (x0 : Vec F S16 .f32) (x1 : Vec F S3072x256 .bf16) : Vec F S192x256 .f32 :=
  VO0_2.read (Elt F) (VO0_2.writes (Elt F) VO0_2.junk (kernelRun0_A c i arg1 harg1 arg2 harg2 arg3 harg3 arg4 harg4 arg5 harg5 hc0 x0 x1).1)

/-- Case A's pieces for output 3 tile its block (2 stores of `S1x1`, checked by the kernel's evaluation: Lib/Ring.lean `Piece.tiledL`, linear in the pieces, through a loop's `@[irreducible]` trip theorem too), so they cover it. -/
theorem cover0_A_3 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : cond0_0 i)
    (x0 : Vec F S16 .f32) (x1 : Vec F S3072x256 .bf16) (y : S1x1.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1x1.size (by sl_kernel_rfl) y

/-- What case A leaves in output 3's staging buffer: its pieces read back over junk. -/
def out0_A_3 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : cond0_0 i)
    (x0 : Vec F S16 .f32) (x1 : Vec F S3072x256 .bf16) : Vec F S1x1 .f32 :=
  VO0_3.read (Elt F) (VO0_3.writes (Elt F) VO0_3.junk (kernelRun0_A c i arg1 harg1 arg2 harg2 arg3 harg3 arg4 harg4 arg5 harg5 hc0 x0 x1).2.1)

/-- Case A's pieces for scratch `arg5`, which the kernel carries between points, cover it: 1 piece of `S256x256` tiling it (Lib/Ring.lean `Piece.tiledL`). -/
theorem scover0_A_0 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : cond0_0 i)
    (x0 : Vec F S16 .f32) (x1 : Vec F S3072x256 .bf16) (y : S256x256.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S256x256.size (by sl_kernel_rfl) y

/-- What case A leaves in scratch `arg5`: its pieces read back over junk. -/
def sout0_A_0 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : cond0_0 i)
    (x0 : Vec F S16 .f32) (x1 : Vec F S3072x256 .bf16) : Vec F S256x256 .bf16 :=
  VS0_0.read (Elt F) (VS0_0.writes (Elt F) VS0_0.junk (kernelRun0_A c i arg1 harg1 arg2 harg2 arg3 harg3 arg4 harg4 arg5 harg5 hc0 x0 x1).2.2.1)

/-- Case B's pieces for output 2 tile its block (24 stores of `S8x256`, checked by the kernel's evaluation: Lib/Ring.lean `Piece.tiledL`, linear in the pieces, through a loop's `@[irreducible]` trip theorem too), so they cover it. -/
theorem cover0_B_2 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : ¬cond0_0 i)
    (x0 : Vec F S16 .f32) (x1 : Vec F S3072x256 .bf16) (xo3 : Vec F S1x1 .f32) (xs0 : Vec F S256x256 .bf16) (y : S192x256.Idx) :
    ∃ pc ∈ (kernelRun0_B c i arg1 harg1 arg2 harg2 arg3 harg3 arg4 harg4 arg5 harg5 hc0 x0 x1 xo3 xs0).1, y ∈ pc.1.set :=
  View.cover_of_tiledL (kernelRun0_B c i arg1 harg1 arg2 harg2 arg3 harg3 arg4 harg4 arg5 harg5 hc0 x0 x1 xo3 xs0).1 S8x256.size (by sl_kernel_rfl) y

/-- What case B leaves in output 2's staging buffer: its pieces read back over junk. -/
def out0_B_2 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : ¬cond0_0 i)
    (x0 : Vec F S16 .f32) (x1 : Vec F S3072x256 .bf16) (xo3 : Vec F S1x1 .f32) (xs0 : Vec F S256x256 .bf16) : Vec F S192x256 .f32 :=
  VO0_2.read (Elt F) (VO0_2.writes (Elt F) VO0_2.junk (kernelRun0_B c i arg1 harg1 arg2 harg2 arg3 harg3 arg4 harg4 arg5 harg5 hc0 x0 x1 xo3 xs0).1)

/-- Case B's pieces for output 3 tile its block (1 store of `S1x1`, checked by the kernel's evaluation: Lib/Ring.lean `Piece.tiledL`, linear in the pieces, through a loop's `@[irreducible]` trip theorem too), so they cover it. -/
theorem cover0_B_3 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : ¬cond0_0 i)
    (x0 : Vec F S16 .f32) (x1 : Vec F S3072x256 .bf16) (xo3 : Vec F S1x1 .f32) (xs0 : Vec F S256x256 .bf16) (y : S1x1.Idx) :
    ∃ pc ∈ (kernelRun0_B c i arg1 harg1 arg2 harg2 arg3 harg3 arg4 harg4 arg5 harg5 hc0 x0 x1 xo3 xs0).2.1, y ∈ pc.1.set :=
  View.cover_of_tiledL (kernelRun0_B c i arg1 harg1 arg2 harg2 arg3 harg3 arg4 harg4 arg5 harg5 hc0 x0 x1 xo3 xs0).2.1 S1x1.size (by sl_kernel_rfl) y

/-- What case B leaves in output 3's staging buffer: its pieces read back over junk. -/
def out0_B_3 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : ¬cond0_0 i)
    (x0 : Vec F S16 .f32) (x1 : Vec F S3072x256 .bf16) (xo3 : Vec F S1x1 .f32) (xs0 : Vec F S256x256 .bf16) : Vec F S1x1 .f32 :=
  VO0_3.read (Elt F) (VO0_3.writes (Elt F) VO0_3.junk (kernelRun0_B c i arg1 harg1 arg2 harg2 arg3 harg3 arg4 harg4 arg5 harg5 hc0 x0 x1 xo3 xs0).2.1)

/-- Case B stores nothing into scratch `arg5`: it holds what the point before left. -/
def sout0_B_0 (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole) (hc0 : ¬cond0_0 i)
    (x0 : Vec F S16 .f32) (x1 : Vec F S3072x256 .bf16) (xo3 : Vec F S1x1 .f32) (xs0 : Vec F S256x256 .bf16) : Vec F S256x256 .bf16 := xs0

end Cert.Proof.AmaxXIdealRun

end
-- ==== Proof.AmaxXOut.lean ====
/- THE BLOCK MAXIMA OF x, WHAT A POINT LEAVES. What the body leaves in its result buffers and its scratch, as formulas over the blocks
   it is given, whatever the last block's overhang holds. -/
module

public import proofs.«01_k».proof.Proof.AmaxXBlock
public import proofs.«01_k».proof.Proof.AmaxXIdealRunOut
public import Idealize.ShloMosaic.Lib.Pipeline.ValueKit
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.AmaxX

open Cert.AmaxXIdeal Cert.AmaxXIdeal.Gen Idealize.ShloMosaic Idealize.ShloMosaic.TcCoe Idealize.SL.Sem Cert.Proof.Code Cert.Proof.Hadamard
open Cert.Proof.AmaxXIdealRun

theorem eta2 {n k : ℕ} (y : Shape.Idx ⟨2, ![n, k]⟩) : ∃ (r : Fin n) (q : Fin k), y = ix2 r q :=
  ⟨y 0, y 1, by funext a; fin_cases a <;> rfl⟩

/-- The signs as a function of the position in a group. -/
def sgn (x0 : Vec Ideal S16 .f32) (j : Fin 16) : EReal := x0 (ix1 j)

/-- The largest magnitude of a group's column in a block of 256 columns. -/
def Bm (σ : Fin 16 → EReal) (X : Vec Ideal S3072x256 .bf16) : Vec Ideal S192x256 .f32 := fun p =>
  Finset.fold max (Ideal.ofBits FTy.f32 4286578688#32) (fun i => FloatOps.absf (F := Ideal) (φ := .f32)
    (∑ j : Fin 16, X (ix2 ⟨(p 0).val * 16 + j.val, by have : (p 0).val < 192 := (p 0).isLt; omega⟩ (p 1)) * had i j (σ j))) Finset.univ

variable (σ : Fin 16 → EReal) (X : Vec Ideal S3072x256 .bf16) (M : Vec Ideal S256x256 .bf16)

/-- Half a block of rows' largest magnitude is the block's. -/
theorem half_at (o : ℕ) (inb) (h : ℕ) (hh : h < 2) (r : Fin 8) (k : Fin 256) (i : S192x256.Idx)
    (h0 : (i 0).val * 16 = o + (h * 8 + r.val) * 16) (h1 : (i 1).val = k.val) :
    half (View.ld X (Rect.unit (s := S3072x256) ![o, 0] ![256, 256] inb)) σ h hh r k = Bm σ X i := by
  obtain ⟨R, K, rfl⟩ := eta2 i
  change R.val * 16 = o + (h * 8 + r.val) * 16 at h0
  obtain rfl : K = k := Fin.ext h1
  unfold half Bm
  congr 1
  funext i
  congr 1
  refine Finset.sum_congr rfl fun j _ => ?_
  congr 1
  rw [View.ld_apply]
  congr 1
  funext a
  fin_cases a
  · refine Fin.ext ?_
    rw [Rect.idx_unit_val]
    show o + ((h * 8 + r.val) * 16 + j.val) = R.val * 16 + j.val
    omega
  · refine Fin.ext ?_
    rw [Rect.idx_unit_val]
    exact Nat.zero_add _

theorem lo_piece (hM : Held σ M) (o : ℕ) (inb) (z : S8x256.Idx) (i : S192x256.Idx)
    (h0 : (i 0).val * 16 = o + (z 0).val * 16) (h1 : (i 1).val = (z 1).val) :
    lo M (View.ld X (Rect.unit (s := S3072x256) ![o, 0] ![256, 256] inb)) z = Bm σ X i := by
  obtain ⟨r, k, rfl⟩ := eta2 z
  change (i 0).val * 16 = o + r.val * 16 at h0
  rw [lo_at _ _ _ hM]
  exact half_at σ X o inb 0 (by omega) r k i (by omega) h1

theorem hi_piece (hM : Held σ M) (o : ℕ) (inb) (z : S8x256.Idx) (i : S192x256.Idx)
    (h0 : (i 0).val * 16 = o + (8 + (z 0).val) * 16) (h1 : (i 1).val = (z 1).val) :
    hi M (View.ld X (Rect.unit (s := S3072x256) ![o, 0] ![256, 256] inb)) z = Bm σ X i := by
  obtain ⟨r, k, rfl⟩ := eta2 z
  change (i 0).val * 16 = o + (8 + r.val) * 16 at h0
  rw [hi_at _ _ _ hM]
  exact half_at σ X o inb 1 (by omega) r k i (by omega) h1

theorem runs_at (r : Fin 8) (k : Fin 256) : runs M X (ix2 r k) =
    max (max (max (max (max (max (max (max (max (max (max (max (max (max (max (max (max (max (max (max (max (max (max (max (0) (lo M (View.ld X (Rect.unit (s := S3072x256) ![0, 0] ![256, 256] inb_S3072x256_S256x256_0_0)) (ix2 r k))) (hi M (View.ld X (Rect.unit (s := S3072x256) ![0, 0] ![256, 256] inb_S3072x256_S256x256_0_0)) (ix2 r k))) (lo M (View.ld X (Rect.unit (s := S3072x256) ![256, 0] ![256, 256] inb_S3072x256_S256x256_256_0)) (ix2 r k))) (hi M (View.ld X (Rect.unit (s := S3072x256) ![256, 0] ![256, 256] inb_S3072x256_S256x256_256_0)) (ix2 r k))) (lo M (View.ld X (Rect.unit (s := S3072x256) ![512, 0] ![256, 256] inb_S3072x256_S256x256_512_0)) (ix2 r k))) (hi M (View.ld X (Rect.unit (s := S3072x256) ![512, 0] ![256, 256] inb_S3072x256_S256x256_512_0)) (ix2 r k))) (lo M (View.ld X (Rect.unit (s := S3072x256) ![768, 0] ![256, 256] inb_S3072x256_S256x256_768_0)) (ix2 r k))) (hi M (View.ld X (Rect.unit (s := S3072x256) ![768, 0] ![256, 256] inb_S3072x256_S256x256_768_0)) (ix2 r k))) (lo M (View.ld X (Rect.unit (s := S3072x256) ![1024, 0] ![256, 256] inb_S3072x256_S256x256_1024_0)) (ix2 r k))) (hi M (View.ld X (Rect.unit (s := S3072x256) ![1024, 0] ![256, 256] inb_S3072x256_S256x256_1024_0)) (ix2 r k))) (lo M (View.ld X (Rect.unit (s := S3072x256) ![1280, 0] ![256, 256] inb_S3072x256_S256x256_1280_0)) (ix2 r k))) (hi M (View.ld X (Rect.unit (s := S3072x256) ![1280, 0] ![256, 256] inb_S3072x256_S256x256_1280_0)) (ix2 r k))) (lo M (View.ld X (Rect.unit (s := S3072x256) ![1536, 0] ![256, 256] inb_S3072x256_S256x256_1536_0)) (ix2 r k))) (hi M (View.ld X (Rect.unit (s := S3072x256) ![1536, 0] ![256, 256] inb_S3072x256_S256x256_1536_0)) (ix2 r k))) (lo M (View.ld X (Rect.unit (s := S3072x256) ![1792, 0] ![256, 256] inb_S3072x256_S256x256_1792_0)) (ix2 r k))) (hi M (View.ld X (Rect.unit (s := S3072x256) ![1792, 0] ![256, 256] inb_S3072x256_S256x256_1792_0)) (ix2 r k))) (lo M (View.ld X (Rect.unit (s := S3072x256) ![2048, 0] ![256, 256] inb_S3072x256_S256x256_2048_0)) (ix2 r k))) (hi M (View.ld X (Rect.unit (s := S3072x256) ![2048, 0] ![256, 256] inb_S3072x256_S256x256_2048_0)) (ix2 r k))) (lo M (View.ld X (Rect.unit (s := S3072x256) ![2304, 0] ![256, 256] inb_S3072x256_S256x256_2304_0)) (ix2 r k))) (hi M (View.ld X (Rect.unit (s := S3072x256) ![2304, 0] ![256, 256] inb_S3072x256_S256x256_2304_0)) (ix2 r k))) (lo M (View.ld X (Rect.unit (s := S3072x256) ![2560, 0] ![256, 256] inb_S3072x256_S256x256_2560_0)) (ix2 r k))) (hi M (View.ld X (Rect.unit (s := S3072x256) ![2560, 0] ![256, 256] inb_S3072x256_S256x256_2560_0)) (ix2 r k))) (lo M (View.ld X (Rect.unit (s := S3072x256) ![2816, 0] ![256, 256] inb_S3072x256_S256x256_2816_0)) (ix2 r k))) (hi M (View.ld X (Rect.unit (s := S3072x256) ![2816, 0] ![256, 256] inb_S3072x256_S256x256_2816_0)) (ix2 r k)) := by
  pointwise [runs, k0_pay9]

theorem lo_q (hM : Held σ M) (o : ℕ) (inb) (q : Fin 24) (hq : o = 128 * q.val) (r : Fin 8) (k : Fin 256) :
    lo M (View.ld X (Rect.unit (s := S3072x256) ![o, 0] ![256, 256] inb)) (ix2 r k) = Bm σ X (ix2 ⟨8 * q.val + r.val, by omega⟩ k) :=
  lo_piece σ X M hM o inb (ix2 r k) _ (by show (8 * q.val + r.val) * 16 = o + r.val * 16; omega) rfl

theorem hi_q (hM : Held σ M) (o : ℕ) (inb) (q : Fin 24) (hq : o + 128 = 128 * q.val) (r : Fin 8) (k : Fin 256) :
    hi M (View.ld X (Rect.unit (s := S3072x256) ![o, 0] ![256, 256] inb)) (ix2 r k) = Bm σ X (ix2 ⟨8 * q.val + r.val, by omega⟩ k) :=
  hi_piece σ X M hM o inb (ix2 r k) _ (by show (8 * q.val + r.val) * 16 = o + (8 + r.val) * 16; omega) rfl

/-- A point's running maximum, bounded: every group's largest magnitude in the column is. -/
theorem runs_le (hM : Held σ M) (r : Fin 8) (k : Fin 256) (z : EReal) :
    runs M X (ix2 r k) ≤ z ↔ 0 ≤ z ∧ ∀ q : Fin 24, Bm σ X (ix2 ⟨8 * q.val + r.val, by omega⟩ k) ≤ z := by
  rw [runs_at,
    lo_q σ X M hM 0 inb_S3072x256_S256x256_0_0 0 rfl r k,
    hi_q σ X M hM 0 inb_S3072x256_S256x256_0_0 1 rfl r k,
    lo_q σ X M hM 256 inb_S3072x256_S256x256_256_0 2 rfl r k,
    hi_q σ X M hM 256 inb_S3072x256_S256x256_256_0 3 rfl r k,
    lo_q σ X M hM 512 inb_S3072x256_S256x256_512_0 4 rfl r k,
    hi_q σ X M hM 512 inb_S3072x256_S256x256_512_0 5 rfl r k,
    lo_q σ X M hM 768 inb_S3072x256_S256x256_768_0 6 rfl r k,
    hi_q σ X M hM 768 inb_S3072x256_S256x256_768_0 7 rfl r k,
    lo_q σ X M hM 1024 inb_S3072x256_S256x256_1024_0 8 rfl r k,
    hi_q σ X M hM 1024 inb_S3072x256_S256x256_1024_0 9 rfl r k,
    lo_q σ X M hM 1280 inb_S3072x256_S256x256_1280_0 10 rfl r k,
    hi_q σ X M hM 1280 inb_S3072x256_S256x256_1280_0 11 rfl r k,
    lo_q σ X M hM 1536 inb_S3072x256_S256x256_1536_0 12 rfl r k,
    hi_q σ X M hM 1536 inb_S3072x256_S256x256_1536_0 13 rfl r k,
    lo_q σ X M hM 1792 inb_S3072x256_S256x256_1792_0 14 rfl r k,
    hi_q σ X M hM 1792 inb_S3072x256_S256x256_1792_0 15 rfl r k,
    lo_q σ X M hM 2048 inb_S3072x256_S256x256_2048_0 16 rfl r k,
    hi_q σ X M hM 2048 inb_S3072x256_S256x256_2048_0 17 rfl r k,
    lo_q σ X M hM 2304 inb_S3072x256_S256x256_2304_0 18 rfl r k,
    hi_q σ X M hM 2304 inb_S3072x256_S256x256_2304_0 19 rfl r k,
    lo_q σ X M hM 2560 inb_S3072x256_S256x256_2560_0 20 rfl r k,
    hi_q σ X M hM 2560 inb_S3072x256_S256x256_2560_0 21 rfl r k,
    lo_q σ X M hM 2816 inb_S3072x256_S256x256_2816_0 22 rfl r k,
    hi_q σ X M hM 2816 inb_S3072x256_S256x256_2816_0 23 rfl r k]
  exact nest24 (fun q : Fin 24 => Bm σ X (ix2 ⟨8 * q.val + r.val, by omega⟩ k)) z

/-- The same of all columns inside the array, once the bound is not negative. -/
theorem all_le (hM : Held σ M) (t : ℕ) (z : EReal) (hz : 0 ≤ z) :
    (∀ (r : Fin 8) (k : Fin 256), t * 256 + k.val < 2880 → runs M X (ix2 r k) ≤ z)
      ↔ ∀ (g : Fin 192) (k : Fin 256), t * 256 + k.val < 2880 → Bm σ X (ix2 g k) ≤ z := by
  constructor
  · intro h g k hk
    have h' := ((runs_le σ X M hM ⟨g.val % 8, by omega⟩ k z).1 (h _ k hk)).2 ⟨g.val / 8, by omega⟩
    have eg : (⟨8 * (g.val / 8) + g.val % 8, by omega⟩ : Fin 192) = g := Fin.ext (by show 8 * (g.val / 8) + g.val % 8 = g.val; omega)
    dsimp only at h'
    rwa [eg] at h'
  · intro h r k hk
    exact (runs_le σ X M hM r k z).2 ⟨hz, fun q => h _ k hk⟩

theorem one_ld (A : Vec Ideal S1x1 .f32) (inb) (h) : View.ld A (Rect.unit (s := S1x1) ![0, 0] ![1, 1] inb) (Shape.Idx.first h) = A (ix2 0 0) := by
  rw [View.ld_apply]
  congr 1
  funext a
  fin_cases a <;> exact Subsingleton.elim (α := Fin 1) _ _

section

variable (c : Dev nD) (i : grid0.Coords) (arg1 : Memref sig .tc .smem S16 .f32) (harg1 : arg1.IsWhole) (arg2 : Memref sig .tc .vmem S3072x256 .bf16) (harg2 : arg2.IsWhole) (arg3 : Memref sig .tc .vmem S192x256 .f32) (harg3 : arg3.IsWhole) (arg4 : Memref sig .tc .smem S1x1 .f32) (harg4 : arg4.IsWhole) (arg5 : Memref sig .tc .vmem S256x256 .bf16) (harg5 : arg5.IsWhole)
  (x0 : Vec Ideal S16 .f32) (x1 : Vec Ideal S3072x256 .bf16)

/-- The first point leaves the block-diagonal matrix in the scratch. -/
theorem held_A (hc0 : cond0_0 i) : Held (sgn x0) (sout0_A_0 (F := Ideal) c i arg1 harg1 arg2 harg2 arg3 harg3 arg4 harg4 arg5 harg5 hc0 x0 x1) := by
  intro q l
  frame_out
  pointwise [k0_pay8, k0_pay2, k0_pay3, k0_pay4, k0_pay5, k0_pay6, k0_pay7]
  rw [strided_group q, strided_row q]
  exact entry_word (sgn x0) ⟨q.val / 128 * 8 + q.val % 8, by omega⟩ ⟨q.val / 8 % 16, by omega⟩ l

/-- The first point's block of maxima. -/
theorem maxima_A (hc0 : cond0_0 i) (y : S192x256.Idx) : out0_A_2 (F := Ideal) c i arg1 harg1 arg2 harg2 arg3 harg3 arg4 harg4 arg5 harg5 hc0 x0 x1 y = Bm (sgn x0) x1 y := by
  have hM := held_A c i arg1 harg1 arg2 harg2 arg3 harg3 arg4 harg4 arg5 harg5 x0 x1 hc0
  revert hM
  frame_out
  generalize k0_pay8 (F := Ideal) _ _ _ _ _ _ _ _ _ = M
  intro hM
  canon_tiles z hz
  · exact hi_piece _ x1 _ hM 2816 inb_S3072x256_S256x256_2816_0 z _ (by omega) (by omega)
  · exact lo_piece _ x1 _ hM 2816 inb_S3072x256_S256x256_2816_0 z _ (by omega) (by omega)
  · exact hi_piece _ x1 _ hM 2560 inb_S3072x256_S256x256_2560_0 z _ (by omega) (by omega)
  · exact lo_piece _ x1 _ hM 2560 inb_S3072x256_S256x256_2560_0 z _ (by omega) (by omega)
  · exact hi_piece _ x1 _ hM 2304 inb_S3072x256_S256x256_2304_0 z _ (by omega) (by omega)
  · exact lo_piece _ x1 _ hM 2304 inb_S3072x256_S256x256_2304_0 z _ (by omega) (by omega)
  · exact hi_piece _ x1 _ hM 2048 inb_S3072x256_S256x256_2048_0 z _ (by omega) (by omega)
  · exact lo_piece _ x1 _ hM 2048 inb_S3072x256_S256x256_2048_0 z _ (by omega) (by omega)
  · exact hi_piece _ x1 _ hM 1792 inb_S3072x256_S256x256_1792_0 z _ (by omega) (by omega)
  · exact lo_piece _ x1 _ hM 1792 inb_S3072x256_S256x256_1792_0 z _ (by omega) (by omega)
  · exact hi_piece _ x1 _ hM 1536 inb_S3072x256_S256x256_1536_0 z _ (by omega) (by omega)
  · exact lo_piece _ x1 _ hM 1536 inb_S3072x256_S256x256_1536_0 z _ (by omega) (by omega)
  · exact hi_piece _ x1 _ hM 1280 inb_S3072x256_S256x256_1280_0 z _ (by omega) (by omega)
  · exact lo_piece _ x1 _ hM 1280 inb_S3072x256_S256x256_1280_0 z _ (by omega) (by omega)
  · exact hi_piece _ x1 _ hM 1024 inb_S3072x256_S256x256_1024_0 z _ (by omega) (by omega)
  · exact lo_piece _ x1 _ hM 1024 inb_S3072x256_S256x256_1024_0 z _ (by omega) (by omega)
  · exact hi_piece _ x1 _ hM 768 inb_S3072x256_S256x256_768_0 z _ (by omega) (by omega)
  · exact lo_piece _ x1 _ hM 768 inb_S3072x256_S256x256_768_0 z _ (by omega) (by omega)
  · exact hi_piece _ x1 _ hM 512 inb_S3072x256_S256x256_512_0 z _ (by omega) (by omega)
  · exact lo_piece _ x1 _ hM 512 inb_S3072x256_S256x256_512_0 z _ (by omega) (by omega)
  · exact hi_piece _ x1 _ hM 256 inb_S3072x256_S256x256_256_0 z _ (by omega) (by omega)
  · exact lo_piece _ x1 _ hM 256 inb_S3072x256_S256x256_256_0 z _ (by omega) (by omega)
  · exact hi_piece _ x1 _ hM 0 inb_S3072x256_S256x256_0_0 z _ (by omega) (by omega)
  · exact lo_piece _ x1 _ hM 0 inb_S3072x256_S256x256_0_0 z _ (by omega) (by omega)

/-- A later point's block of maxima. -/
theorem maxima_B (hc0 : ¬cond0_0 i) (xo3 : Vec Ideal S1x1 .f32) (xs0 : Vec Ideal S256x256 .bf16) (hM : Held σ xs0) (y : S192x256.Idx) :
    out0_B_2 (F := Ideal) c i arg1 harg1 arg2 harg2 arg3 harg3 arg4 harg4 arg5 harg5 hc0 x0 x1 xo3 xs0 y = Bm σ x1 y := by
  frame_out
  canon_tiles z hz
  · exact hi_piece _ x1 _ hM 2816 inb_S3072x256_S256x256_2816_0 z _ (by omega) (by omega)
  · exact lo_piece _ x1 _ hM 2816 inb_S3072x256_S256x256_2816_0 z _ (by omega) (by omega)
  · exact hi_piece _ x1 _ hM 2560 inb_S3072x256_S256x256_2560_0 z _ (by omega) (by omega)
  · exact lo_piece _ x1 _ hM 2560 inb_S3072x256_S256x256_2560_0 z _ (by omega) (by omega)
  · exact hi_piece _ x1 _ hM 2304 inb_S3072x256_S256x256_2304_0 z _ (by omega) (by omega)
  · exact lo_piece _ x1 _ hM 2304 inb_S3072x256_S256x256_2304_0 z _ (by omega) (by omega)
  · exact hi_piece _ x1 _ hM 2048 inb_S3072x256_S256x256_2048_0 z _ (by omega) (by omega)
  · exact lo_piece _ x1 _ hM 2048 inb_S3072x256_S256x256_2048_0 z _ (by omega) (by omega)
  · exact hi_piece _ x1 _ hM 1792 inb_S3072x256_S256x256_1792_0 z _ (by omega) (by omega)
  · exact lo_piece _ x1 _ hM 1792 inb_S3072x256_S256x256_1792_0 z _ (by omega) (by omega)
  · exact hi_piece _ x1 _ hM 1536 inb_S3072x256_S256x256_1536_0 z _ (by omega) (by omega)
  · exact lo_piece _ x1 _ hM 1536 inb_S3072x256_S256x256_1536_0 z _ (by omega) (by omega)
  · exact hi_piece _ x1 _ hM 1280 inb_S3072x256_S256x256_1280_0 z _ (by omega) (by omega)
  · exact lo_piece _ x1 _ hM 1280 inb_S3072x256_S256x256_1280_0 z _ (by omega) (by omega)
  · exact hi_piece _ x1 _ hM 1024 inb_S3072x256_S256x256_1024_0 z _ (by omega) (by omega)
  · exact lo_piece _ x1 _ hM 1024 inb_S3072x256_S256x256_1024_0 z _ (by omega) (by omega)
  · exact hi_piece _ x1 _ hM 768 inb_S3072x256_S256x256_768_0 z _ (by omega) (by omega)
  · exact lo_piece _ x1 _ hM 768 inb_S3072x256_S256x256_768_0 z _ (by omega) (by omega)
  · exact hi_piece _ x1 _ hM 512 inb_S3072x256_S256x256_512_0 z _ (by omega) (by omega)
  · exact lo_piece _ x1 _ hM 512 inb_S3072x256_S256x256_512_0 z _ (by omega) (by omega)
  · exact hi_piece _ x1 _ hM 256 inb_S3072x256_S256x256_256_0 z _ (by omega) (by omega)
  · exact lo_piece _ x1 _ hM 256 inb_S3072x256_S256x256_256_0 z _ (by omega) (by omega)
  · exact hi_piece _ x1 _ hM 0 inb_S3072x256_S256x256_0_0 z _ (by omega) (by omega)
  · exact lo_piece _ x1 _ hM 0 inb_S3072x256_S256x256_0_0 z _ (by omega) (by omega)

/-- The first point's number, bounded. -/
theorem amax_A (hc0 : cond0_0 i) (z : EReal) : (out0_A_3 (F := Ideal) c i arg1 harg1 arg2 harg2 arg3 harg3 arg4 harg4 arg5 harg5 hc0 x0 x1 (ix2 0 0) : EReal) ≤ z
    ↔ 0 ≤ z ∧ ∀ (g : Fin 192) (k : Fin 256), (i 0).val * 256 + k.val < 2880 → Bm (sgn x0) x1 (ix2 g k) ≤ z := by
  have hM := held_A c i arg1 harg1 arg2 harg2 arg3 harg3 arg4 harg4 arg5 harg5 x0 x1 hc0
  revert hM
  frame_out
  generalize k0_pay8 (F := Ideal) _ _ _ _ _ _ _ _ _ _ _ _ = M
  intro hM
  show k0_pay1 (runs M x1) _ _ ≤ z ↔ _
  rw [masked_le _ _ (i 0).isLt]
  · rw [show (FloatOps.ofBits FTy.f32 0#32 : Ideal .f32) = 0 from by pointwise]
    exact and_congr_right fun hz => all_le _ _ _ hM _ z hz
  · rw [show (FloatOps.ofBits FTy.f32 0#32 : Ideal .f32) = 0 from by pointwise]
    exact id

/-- A later point's number, bounded, over the one before. -/
theorem amax_B (hc0 : ¬cond0_0 i) (xo3 : Vec Ideal S1x1 .f32) (xs0 : Vec Ideal S256x256 .bf16) (hM : Held σ xs0) (h3 : (0 : EReal) ≤ xo3 (ix2 0 0)) (z : EReal) :
    (out0_B_3 (F := Ideal) c i arg1 harg1 arg2 harg2 arg3 harg3 arg4 harg4 arg5 harg5 hc0 x0 x1 xo3 xs0 (ix2 0 0) : EReal) ≤ z
    ↔ (xo3 (ix2 0 0) : EReal) ≤ z ∧ ∀ (g : Fin 192) (k : Fin 256), (i 0).val * 256 + k.val < 2880 → Bm σ x1 (ix2 g k) ≤ z := by
  frame_out
  show k0_pay1 (runs xs0 x1) _ _ ≤ z ↔ _
  rw [one_ld, masked_le _ _ (i 0).isLt _ _ (fun h => h3.trans h)]
  exact and_congr_right fun hz => all_le _ _ _ hM _ z (h3.trans hz)

end

end Cert.Proof.AmaxX

end
-- ==== Proof.AmaxXWin.lean ====
/- THE BLOCK MAXIMA OF x, THE BLOCKS' PLACES. Point `t` reads and writes the columns from `256 t`; at the last point half of a
   block's columns lie outside the array, and what they hold is not determined. -/
module

public import proofs.«01_k».proof.Proof.AmaxXOut

@[expose] public section

set_option maxRecDepth 16384

noncomputable section

namespace Cert.Proof.AmaxX

open Cert.AmaxXIdeal Cert.AmaxXIdeal.Gen Idealize.ShloMosaic Idealize.ShloMosaic.TcCoe Idealize.SL.Sem Cert.Proof.Code Cert.Proof.Hadamard
open Cert.Proof.AmaxXIdealRun

variable (m : (ℓ : Loc nD τ sig) → Buf (Elt Ideal) ℓ)

theorem coord (t : Fin cfg0.N) : ((grid0.coords t 0 : Fin _) : ℕ) = t.val :=
  (by decide +kernel : ∀ t : Fin grid0.N, ((grid0.coords t 0 : Fin _) : ℕ) = t.val) t

/-- The sizes of the part of a block inside the array. -/
theorem size1 (t : Fin cfg0.N) : win0_1.xsize (grid0.coords t) 0 = 3072 ∧ win0_1.xsize (grid0.coords t) 1 = min 256 (2880 - t.val * 256) :=
  (by decide +kernel : ∀ t : Fin grid0.N, win0_1.xsize (grid0.coords t) 0 = 3072 ∧ win0_1.xsize (grid0.coords t) 1 = min 256 (2880 - t.val * 256)) t
theorem size2 (t : Fin cfg0.N) : win0_2.xsize (grid0.coords t) 0 = 192 ∧ win0_2.xsize (grid0.coords t) 1 = min 256 (2880 - t.val * 256) :=
  (by decide +kernel : ∀ t : Fin grid0.N, win0_2.xsize (grid0.coords t) 0 = 192 ∧ win0_2.xsize (grid0.coords t) 1 = min 256 (2880 - t.val * 256)) t

/-- A block's first row and column. -/
theorem index1 (t : Fin cfg0.N) : win0_1.index t 0 = 0 ∧ win0_1.index t 1 = t.val :=
  (by decide +kernel : ∀ t : Fin grid0.N, win0_1.index t 0 = 0 ∧ win0_1.index t 1 = t.val) t
theorem index2 (t : Fin cfg0.N) : win0_2.index t 0 = 0 ∧ win0_2.index t 1 = t.val :=
  (by decide +kernel : ∀ t : Fin grid0.N, win0_2.index t 0 = 0 ∧ win0_2.index t 1 = t.val) t

/-- Where the array holds a block's element. -/
theorem emb1 (t : Fin cfg0.N) (y : (win0_1.xblock (grid0.coords t)).Idx) (r : Fin 3072) (K : Fin 2880) (h0 : (y 0).val = r.val) (h1 : t.val * 256 + (y 1).val = K.val) :
    (win0_1.blk t).view.emb y = (ix2 r K : S3072x2880.Idx) := by
  have e := index1 t
  have hv : ∀ a, ((win0_1.blk t).view.emb y a).val = win0_1.index t a * win0_1.size a + 1 * (y a).val := fun _ => rfl
  funext a
  refine Fin.ext ((hv a).trans ?_)
  fin_cases a
  · refine (congrArg (· * win0_1.size 0 + 1 * (y 0).val) e.1).trans ?_
    show 0 * _ + 1 * (y 0).val = r.val
    omega
  · refine (congrArg (· * win0_1.size 1 + 1 * (y 1).val) e.2).trans ?_
    show t.val * 256 + 1 * (y 1).val = K.val
    omega
theorem emb2 (t : Fin cfg0.N) (y : (win0_2.xblock (grid0.coords t)).Idx) (r : Fin 192) (K : Fin 2880) (h0 : (y 0).val = r.val) (h1 : t.val * 256 + (y 1).val = K.val) :
    (win0_2.blk t).view.emb y = (ix2 r K : S192x2880.Idx) := by
  have e := index2 t
  have hv : ∀ a, ((win0_2.blk t).view.emb y a).val = win0_2.index t a * win0_2.size a + 1 * (y a).val := fun _ => rfl
  funext a
  refine Fin.ext ((hv a).trans ?_)
  fin_cases a
  · refine (congrArg (· * win0_2.size 0 + 1 * (y 0).val) e.1).trans ?_
    show 0 * _ + 1 * (y 0).val = r.val
    omega
  · refine (congrArg (· * win0_2.size 1 + 1 * (y 1).val) e.2).trans ?_
    show t.val * 256 + 1 * (y 1).val = K.val
    omega

/-- The staging buffer's element inside the array is the operand's. -/
theorem fill1_at (c : Dev nD) (t : Fin cfg0.N) (d : Vec Ideal S3072x256 .bf16) (r : Fin 3072) (k : Fin 256) (hk : t.val * 256 + k.val < 2880) :
    (win0_1.fill (grid0.coords t) d (iblk m c 1 t) : Vec Ideal S3072x256 .bf16) (ix2 r k)
      = (m ((c : Thread nD τ).loc main_arg1) : FVec Ideal S3072x2880 .bf16) (ix2 r ⟨t.val * 256 + k.val, hk⟩) := by
  have hs := size1 t
  have hm : ∀ a, ((ix2 r k : S3072x256.Idx) a).val < win0_1.xsize (grid0.coords t) a := by
    intro a
    fin_cases a
    · show r.val < win0_1.xsize (grid0.coords t) 0
      rw [hs.1]; exact r.isLt
    · show k.val < win0_1.xsize (grid0.coords t) 1
      rw [hs.2]; omega
  refine (win0_1.fill_xinj (grid0.coords t) d (iblk m c 1 t) (fun a => ⟨((ix2 r k : S3072x256.Idx) a).val, hm a⟩)).trans ?_
  exact congrArg (m ((c : Thread nD τ).loc main_arg1)) (emb1 t _ r ⟨t.val * 256 + k.val, hk⟩ rfl rfl)

/-- A block's largest magnitude inside the array is the operand's. -/
theorem Bm_at (c : Dev nD) (t : Fin cfg0.N) (d : Vec Ideal S3072x256 .bf16) (x0 : Vec Ideal S16 .f32) (hx : x0 = m ((c : Thread nD τ).loc main_arg0)) (g : Fin 192) (k : Fin 256) (hk : t.val * 256 + k.val < 2880) :
    Bm (sgn x0) (win0_1.fill (grid0.coords t) d (iblk m c 1 t)) (ix2 g k)
      = Gm (m ((c : Thread nD τ).loc main_arg0)) (m ((c : Thread nD τ).loc main_arg1)) (ix2 g ⟨t.val * 256 + k.val, hk⟩) := by
  subst hx
  generalize hX : (win0_1.fill (grid0.coords t) d (iblk m c 1 t) : Vec Ideal S3072x256 .bf16) = X
  have hf : ∀ r : Fin 3072, X (ix2 r k) = (m ((c : Thread nD τ).loc main_arg1) : FVec Ideal S3072x2880 .bf16) (ix2 r ⟨t.val * 256 + k.val, hk⟩) :=
    fun r => hX ▸ fill1_at m c t d r k hk
  generalize (m ((c : Thread nD τ).loc main_arg1) : FVec Ideal S3072x2880 .bf16) = x at hf ⊢
  generalize (m ((c : Thread nD τ).loc main_arg0) : FVec Ideal S16 .f32) = σ
  clear hX
  unfold Bm Gm rot sgn
  congr 1
  funext i
  congr 1
  exact Finset.sum_congr rfl fun j _ => congrArg (· * _) (hf _)

/-- The signs' block is the signs. -/
theorem iblk0 (c : Dev nD) (t : Fin cfg0.N) : (iblk m c 0 t : Vec Ideal S16 .f32) = m ((c : Thread nD τ).loc main_arg0) := by
  funext y
  refine congrArg (m ((c : Thread nD τ).loc main_arg0)) ?_
  funext a
  refine Fin.ext ?_
  fin_cases a
  have e : win0_0.index t 0 = 0 := (by decide +kernel : ∀ t : Fin grid0.N, win0_0.index t 0 = 0) t
  show win0_0.index t 0 * 16 + 1 * (y 0).val = (y 0).val
  rw [e]; omega

/-- The block of maxima as written back. -/
def G2 (c : Dev nD) (t : Fin cfg0.N) : (win0_2.xblock (grid0.coords t)).Idx → EReal := fun y =>
  (Gm (m ((c : Thread nD τ).loc main_arg0)) (m ((c : Thread nD τ).loc main_arg1)) : FVec Ideal S192x2880 .f32) ((win0_2.blk t).view.emb y)

/-- What the body leaves in the block of maxima is, inside the array, the operand's. -/
theorem cut2 (c : Dev nD) (t : Fin cfg0.N) (d : Vec Ideal S3072x256 .bf16) (x0 : Vec Ideal S16 .f32) (hx : x0 = m ((c : Thread nD τ).loc main_arg0)) :
    win0_2.cut (grid0.coords t) (Bm (sgn x0) (win0_1.fill (grid0.coords t) d (iblk m c 1 t))) = G2 m c t := by
  have hs := size2 t
  funext y
  have h0 : (y 0).val < 192 := hs.1 ▸ (y 0).isLt
  have h1 : (y 1).val < min 256 (2880 - t.val * 256) := hs.2 ▸ (y 1).isLt
  have e := emb2 t y ⟨(y 0).val, h0⟩ ⟨t.val * 256 + (y 1).val, by omega⟩ rfl rfl
  unfold G2
  rw [e]
  refine Eq.trans (congrArg _ ?_) (Bm_at m c t d x0 hx ⟨(y 0).val, h0⟩ ⟨(y 1).val, by omega⟩ (by show t.val * 256 + (y 1).val < 2880; omega))
  funext a
  fin_cases a <;> rfl

/-- The largest magnitude of the columns up to point `t`'s. -/
def G3 (c : Dev nD) (t : ℕ) : Vec Ideal S1x1 .f32 := fun _ =>
  Finset.fold max (0 : EReal) (fun p : Fin 192 × Fin 2880 => (Gm (m ((c : Thread nD τ).loc main_arg0)) (m ((c : Thread nD τ).loc main_arg1)) (ix2 p.1 p.2) : EReal))
    (Finset.univ.filter fun p => p.2.val / 256 ≤ t)

theorem G3_le (c : Dev nD) (t : ℕ) (z : EReal) : (G3 m c t (ix2 0 0) : EReal) ≤ z ↔ 0 ≤ z ∧ ∀ (g : Fin 192) (K : Fin 2880), K.val / 256 ≤ t →
    (Gm (m ((c : Thread nD τ).loc main_arg0)) (m ((c : Thread nD τ).loc main_arg1)) (ix2 g K) : EReal) ≤ z := by
  unfold G3
  rw [Finset.fold_max_le]
  refine and_congr_right fun _ => ⟨fun h g K hK => h (g, K) (Finset.mem_filter.2 ⟨Finset.mem_univ _, hK⟩), fun h p hp => h p.1 p.2 (Finset.mem_filter.1 hp).2⟩

/-- The columns of a point, bounded. -/
theorem point_le (c : Dev nD) (t : Fin cfg0.N) (d : Vec Ideal S3072x256 .bf16) (x0 : Vec Ideal S16 .f32) (hx : x0 = m ((c : Thread nD τ).loc main_arg0)) (z : EReal) :
    (∀ (g : Fin 192) (k : Fin 256), (grid0.coords t 0).val * 256 + k.val < 2880 → (Bm (sgn x0) (win0_1.fill (grid0.coords t) d (iblk m c 1 t)) (ix2 g k) : EReal) ≤ z)
      ↔ ∀ (g : Fin 192) (K : Fin 2880), K.val / 256 = t.val →
        (Gm (m ((c : Thread nD τ).loc main_arg0)) (m ((c : Thread nD τ).loc main_arg1)) (ix2 g K) : EReal) ≤ z := by
  rw [coord t]
  constructor
  · intro h g K hK
    have h' := h g ⟨K.val % 256, by omega⟩ (by show t.val * 256 + K.val % 256 < 2880; omega)
    rw [Bm_at m c t d x0 hx g ⟨K.val % 256, by omega⟩ (by show t.val * 256 + K.val % 256 < 2880; omega)] at h'
    have eK : (⟨t.val * 256 + K.val % 256, by omega⟩ : Fin 2880) = K := Fin.ext (by show t.val * 256 + K.val % 256 = K.val; omega)
    dsimp only at h'
    rwa [eK] at h'
  · intro h g k hk
    rw [Bm_at m c t d x0 hx g k hk]
    exact h g _ (by show (t.val * 256 + k.val) / 256 = t.val; omega)

theorem eq_one {f g : Vec Ideal S1x1 .f32} (h : f (ix2 0 0) = g (ix2 0 0)) : f = g := by
  funext y
  have e : y = ix2 0 0 := by
    funext a
    fin_cases a <;> exact Subsingleton.elim (α := Fin 1) _ _
  rw [e]; exact h

/-- The number after the first point, -/
theorem first3 (c : Dev nD) (t : Fin cfg0.N) (h0 : t.val = 0) (d : Vec Ideal S3072x256 .bf16) (x0 : Vec Ideal S16 .f32) (hx : x0 = m ((c : Thread nD τ).loc main_arg0))
    (f : Vec Ideal S1x1 .f32) (hf : ∀ z : EReal, (f (ix2 0 0) : EReal) ≤ z ↔ 0 ≤ z ∧ ∀ (g : Fin 192) (k : Fin 256), (grid0.coords t 0).val * 256 + k.val < 2880 → (Bm (sgn x0) (win0_1.fill (grid0.coords t) d (iblk m c 1 t)) (ix2 g k) : EReal) ≤ z) :
    f = G3 m c t.val := by
  refine eq_one (eq_of_forall_ge_iff (α := EReal) fun z => ?_)
  rw [hf z, point_le m c t d x0 hx z, G3_le, h0]
  simp only [Nat.le_zero]

/-- and after a later one. -/
theorem later3 (c : Dev nD) (t : Fin cfg0.N) (h0 : t.val ≠ 0) (d : Vec Ideal S3072x256 .bf16) (x0 : Vec Ideal S16 .f32) (hx : x0 = m ((c : Thread nD τ).loc main_arg0))
    (f : Vec Ideal S1x1 .f32) (hf : ∀ z : EReal, (f (ix2 0 0) : EReal) ≤ z ↔ (G3 m c (t.val - 1) (ix2 0 0) : EReal) ≤ z ∧ ∀ (g : Fin 192) (k : Fin 256), (grid0.coords t 0).val * 256 + k.val < 2880 → (Bm (sgn x0) (win0_1.fill (grid0.coords t) d (iblk m c 1 t)) (ix2 g k) : EReal) ≤ z) :
    f = G3 m c t.val := by
  refine eq_one (eq_of_forall_ge_iff (α := EReal) fun z => ?_)
  rw [hf z, point_le m c t d x0 hx z, G3_le, G3_le]
  constructor
  · rintro ⟨⟨hz, h1⟩, h2⟩
    refine ⟨hz, fun g K hK => ?_⟩
    rcases Nat.lt_or_ge (K.val / 256) t.val with hl | hl
    · exact h1 g K (by omega)
    · exact h2 g K (by omega)
  · rintro ⟨hz, h1⟩
    exact ⟨⟨hz, fun g K hK => h1 g K (by omega)⟩, fun g K hK => h1 g K (by omega)⟩

theorem G3_nonneg (c : Dev nD) (t : ℕ) : (0 : EReal) ≤ G3 m c t (ix2 0 0) := ((G3_le m c t _).1 le_rfl).1

/-- A largest magnitude is not negative. -/
theorem Gm_nonneg (σ : FVec Ideal S16 .f32) (x : FVec Ideal S3072x2880 .bf16) (i : S192x2880.Idx) : 0 ≤ Gm σ x i := by
  unfold Gm
  refine le_trans (b := FloatOps.absf (F := Ideal) (φ := .f32) (rot σ x (i 0) 0 (i 1))) ?_
    ((Finset.fold_max_le (f := fun p => FloatOps.absf (F := Ideal) (φ := .f32) (rot σ x (i 0) p (i 1))) _).1 le_rfl |>.2 0 (Finset.mem_univ _))
  show 0 ≤ max (rot σ x (i 0) 0 (i 1)) (-rot σ x (i 0) 0 (i 1))
  rcases le_total 0 (rot σ x (i 0) 0 (i 1)) with h | h
  · exact le_max_of_le_left h
  · exact le_max_of_le_right (by simpa using h)

/-- After the last point the number is the largest magnitude of all. -/
theorem G3_last (c : Dev nD) (t : ℕ) (ht : t = 11) : G3 m c t = Ga (m ((c : Thread nD τ).loc main_arg0)) (m ((c : Thread nD τ).loc main_arg1)) := by
  refine eq_one (eq_of_forall_ge_iff (α := EReal) fun z => ?_)
  rw [G3_le]
  unfold Ga
  rw [Finset.fold_max_le, c_least]
  constructor
  · rintro ⟨-, h⟩
    exact ⟨bot_le, fun p _ => h p.1 p.2 (by omega)⟩
  · rintro ⟨-, h⟩
    exact ⟨le_trans (Gm_nonneg _ _ _) (h (0, 0) (Finset.mem_univ _)), fun g K _ => h (g, K) (Finset.mem_univ _)⟩

end Cert.Proof.AmaxX

end
-- ==== Proof.AmaxXPoint.lean ====
/- THE BLOCK MAXIMA OF x, THE POINTS, over the extended reals: what each buffer holds point by point. The last block of 256 columns overhangs the array: of a buffer's columns outside it nothing is said. -/
module

public import proofs.«01_k».proof.Proof.AmaxXWin

@[expose] public section

set_option maxRecDepth 16384

noncomputable section

namespace Cert.Proof.AmaxX

open Cert.AmaxXIdeal Cert.AmaxXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proof.AmaxXIdealRun

variable (m : (ℓ : Loc nD τ sig) → Buf (Elt Ideal) ℓ) (ρ : Dev nD → PrngReg)

/-- The signs and the operand. -/
abbrev sg (c : Dev nD) : Vec Ideal S16 .f32 := m ((c : Thread nD τ).loc main_arg0)
abbrev xx (c : Dev nD) : FVec Ideal S3072x2880 .bf16 := m ((c : Thread nD τ).loc main_arg1)

/-- The invariant: before the first point the scratch holds anything, after it the block-diagonal matrix. -/
def PhiS (c : Dev nD) : ℕ → sProp (MT nD τ sig Unit (Elt Ideal) ℕ (UR sig nD τ) ℕ)
  | 0 => Pipeline.ΦA spec0 c
  | _ + 1 => iprop((∃ M, ⌜Held (sgn (sg m c)) M⌝ ∗ owns (c : Thread nD τ) scM0_0 fullShare M) ∗ (∃ r, prngReg c r))

/-- What the body finds and leaves, point by point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (G2 m c t)
    | ⟨3, _⟩ => G3 m c t.val
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = win0_1.fill (grid0.coords t) (fun _ => (0 : EReal)) (iblk m c 1 t) := by dsimp only [dats]
theorem after0_2 (c : Dev nD) (t : Fin cfg0.N) : (dats m 0 c).after 2 t = win0_2.fill (grid0.coords t) (fun _ => (0 : EReal)) (G2 m c t) := by dsimp only [dats]
theorem after0_3 (c : Dev nD) (t : Fin cfg0.N) : (dats m 0 c).after 3 t = G3 m c t.val := by dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = win0_1.fill (grid0.coords t) d (iblk m c 1 t) := by
  unfold Pipeline.Dat.before
  rw [if_pos (fetch0_1 t)]
  unfold Pipeline.Dat.fetched Pipeline.Dat.blockOf iblk
  rw [A_eq]

theorem before0_3 (c : Dev nD) (t : Fin cfg0.N) (h0 : t.val ≠ 0) (d) : (dats m 0 c).before 3 t d = G3 m c (t.val - 1) := by
  have hN : t.val < 12 := lt_of_lt_of_eq t.isLt (show cfg0.N = 12 from N_0)
  rw [Pipeline.Dat.before_out_kept _ 3 rfl t h0 (Bool.eq_false_iff.mpr fun h => by have := (flush0_3 _).mp h; dsimp only at this; omega)
    (fun _ => rfl) (fun _ _ => rfl)]
  dsimp only [dats]

/-- What the body is called with, and what it returns. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (grid0.coords t) d (win0_1.cut (grid0.coords t) ((dats m 0 c).after 1 t))))
    ∗ (∃ d, owns (c : Thread nD τ) (ms0_2 t) fullShare (win0_2.fill (grid0.coords t) d (win0_2.cut (grid0.coords t) ((dats m 0 c).after 2 t))))
    ∗ owns (c : Thread nD τ) (ms0_3 t) fullShare ((dats m 0 c).after 3 t))

/-- The operand's buffer, left as found. -/
theorem left1 (c : Dev nD) (t : Fin cfg0.N) (d) : win0_1.fill (grid0.coords t) d (win0_1.cut (grid0.coords t) ((dats m 0 c).after 1 t))
    = win0_1.fill (grid0.coords t) d (iblk m c 1 t) := by
  rw [after0_1, Pipeline.Window.cut_fill]

/-- The block of maxima: any contents that are the maxima inside the array. -/
theorem left2 (c : Dev nD) (t : Fin cfg0.N) (X : Vec Ideal S192x256 .f32) (hX : win0_2.cut (grid0.coords t) X = G2 m c t) :
    win0_2.fill (grid0.coords t) X (win0_2.cut (grid0.coords t) ((dats m 0 c).after 2 t)) = X := by
  rw [after0_2, Pipeline.Window.cut_fill, ← hX, Pipeline.Window.fill_cut]

/-! ## One point -/

section

variable (c : Dev nD) (t : Fin cfg0.N) (d : Vec Ideal S3072x256 .bf16)

/-- The operand's buffer at a point. -/
abbrev buf (c : Dev nD) (t : Fin cfg0.N) (d : Vec Ideal S3072x256 .bf16) : Vec Ideal S3072x256 .bf16 := win0_1.fill (grid0.coords t) d (iblk m c 1 t)

theorem A2 (hc0 : cond0_0 (grid0.coords t)) :
    out0_A_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) = Bm (sgn (iblk m c 0 t)) (buf m c t d) :=
  funext fun y => maxima_A c (grid0.coords t) (ms0_0 t) (hs0_0 t) (ms0_1 t) (hs0_1 t) (ms0_2 t) (hs0_2 t) (ms0_3 t) (hs0_3 t) scM0_0 (Memref.isWhole_whole _) (iblk m c 0 t) (buf m c t d) hc0 y

theorem A3 (h0 : t.val = 0) (hc0 : cond0_0 (grid0.coords t)) :
    out0_A_3 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) = G3 m c t.val :=
  first3 m c t h0 d (iblk m c 0 t) (iblk0 m c t) _ fun z => amax_A c (grid0.coords t) (ms0_0 t) (hs0_0 t) (ms0_1 t) (hs0_1 t) (ms0_2 t) (hs0_2 t) (ms0_3 t) (hs0_3 t) scM0_0 (Memref.isWhole_whole _) (iblk m c 0 t) (buf m c t d) hc0 z

theorem B2 (hc0 : ¬cond0_0 (grid0.coords t)) (xo3 : Vec Ideal S1x1 .f32) (M : Vec Ideal S256x256 .bf16) (hM : Held (sgn (iblk m c 0 t)) M) :
    out0_B_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M = Bm (sgn (iblk m c 0 t)) (buf m c t d) :=
  funext fun y => maxima_B (sgn (iblk m c 0 t)) c (grid0.coords t) (ms0_0 t) (hs0_0 t) (ms0_1 t) (hs0_1 t) (ms0_2 t) (hs0_2 t) (ms0_3 t) (hs0_3 t) scM0_0 (Memref.isWhole_whole _) (iblk m c 0 t) (buf m c t d) hc0 xo3 M hM y

theorem B3 (h0 : t.val ≠ 0) (hc0 : ¬cond0_0 (grid0.coords t)) (M : Vec Ideal S256x256 .bf16) (hM : Held (sgn (iblk m c 0 t)) M) :
    out0_B_3 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) (G3 m c (t.val - 1)) M = G3 m c t.val :=
  later3 m c t h0 d (iblk m c 0 t) (iblk0 m c t) _ fun z => amax_B (sgn (iblk m c 0 t)) c (grid0.coords t) (ms0_0 t) (hs0_0 t) (ms0_1 t) (hs0_1 t) (ms0_2 t) (hs0_2 t) (ms0_3 t) (hs0_3 t) scM0_0 (Memref.isWhole_whole _) (iblk m c 0 t) (buf m c t d) hc0 (G3 m c (t.val - 1)) M hM (G3_nonneg m c _) z

/-! What the pieces read back. -/

theorem RA2 (hc0 : cond0_0 (grid0.coords t)) (f) :
    (ms0_2 t).view.read (Elt Ideal) ((ms0_2 t).view.writes (Elt Ideal) f (kernelRun0_A (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d)).1)
    = out0_A_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) := by
  unfold out0_A_2
  exact View.read_writes_of_cover _ _ _ _ _ (cover0_A_2 c (grid0.coords t) (ms0_0 t) (hs0_0 t) (ms0_1 t) (hs0_1 t) (ms0_2 t) (hs0_2 t) (ms0_3 t) (hs0_3 t) scM0_0 (Memref.isWhole_whole _) hc0 (iblk m c 0 t) (buf m c t d))
theorem RA3 (hc0 : cond0_0 (grid0.coords t)) (f) :
    (ms0_3 t).view.read (Elt Ideal) ((ms0_3 t).view.writes (Elt Ideal) f (kernelRun0_A (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d)).2.1)
    = out0_A_3 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) := by
  unfold out0_A_3
  exact View.read_writes_of_cover _ _ _ _ _ (cover0_A_3 c (grid0.coords t) (ms0_0 t) (hs0_0 t) (ms0_1 t) (hs0_1 t) (ms0_2 t) (hs0_2 t) (ms0_3 t) (hs0_3 t) scM0_0 (Memref.isWhole_whole _) hc0 (iblk m c 0 t) (buf m c t d))
theorem RAs (hc0 : cond0_0 (grid0.coords t)) (f) :
    VS0_0.read (Elt Ideal) (VS0_0.writes (Elt Ideal) f (kernelRun0_A (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d)).2.2.1)
    = sout0_A_0 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) := by
  unfold sout0_A_0
  exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) hc0 (iblk m c 0 t) (buf m c t d))
theorem RB2 (hc0 : ¬cond0_0 (grid0.coords t)) (xo3 : Vec Ideal S1x1 .f32) (M : Vec Ideal S256x256 .bf16) (f) :
    (ms0_2 t).view.read (Elt Ideal) ((ms0_2 t).view.writes (Elt Ideal) f (kernelRun0_B (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M).1)
    = out0_B_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M := by
  unfold out0_B_2
  exact View.read_writes_of_cover _ _ _ _ _ (cover0_B_2 c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M)
theorem RB3 (hc0 : ¬cond0_0 (grid0.coords t)) (xo3 : Vec Ideal S1x1 .f32) (M : Vec Ideal S256x256 .bf16) (f) :
    (ms0_3 t).view.read (Elt Ideal) ((ms0_3 t).view.writes (Elt Ideal) f (kernelRun0_B (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M).2.1)
    = out0_B_3 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M := by
  unfold out0_B_3
  exact View.read_writes_of_cover _ _ _ _ _ (cover0_B_3 c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M)

theorem held (hc0 : cond0_0 (grid0.coords t)) : Held (sgn (sg m c)) (sout0_A_0 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d)) := by
  have h := held_A c (grid0.coords t) (ms0_0 t) (hs0_0 t) (ms0_1 t) (hs0_1 t) (ms0_2 t) (hs0_2 t) (ms0_3 t) (hs0_3 t) scM0_0 (Memref.isWhole_whole _) (iblk m c 0 t) (buf m c t d) hc0
  generalize sout0_A_0 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) = M at h ⊢
  rw [iblk0 m c t] at h
  exact h

theorem LA2 (hc0 : cond0_0 (grid0.coords t)) : win0_2.fill (grid0.coords t) (out0_A_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d)) (win0_2.cut (grid0.coords t) ((dats m 0 c).after 2 t))
    = out0_A_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) := by
  have h := A2 m c t d hc0
  generalize out0_A_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) = X at h ⊢
  refine left2 m c t X ?_
  rw [h]
  exact cut2 m c t d _ (iblk0 m c t)
theorem LB2 (hc0 : ¬cond0_0 (grid0.coords t)) (xo3 : Vec Ideal S1x1 .f32) (M : Vec Ideal S256x256 .bf16) (hM : Held (sgn (iblk m c 0 t)) M) :
    win0_2.fill (grid0.coords t) (out0_B_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M) (win0_2.cut (grid0.coords t) ((dats m 0 c).after 2 t))
    = out0_B_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M := by
  have h := B2 m c t d hc0 xo3 M hM
  generalize out0_B_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d) xo3 M = X at h ⊢
  refine left2 m c t X ?_
  rw [h]
  exact cut2 m c t d _ (iblk0 m c t)

end

end Cert.Proof.AmaxX

end
-- ==== Proof.AmaxXIdealFrame.lean ====
/- THE BLOCK MAXIMA OF x, THE RUN, over the extended reals: the body at a point, the whole grid, and what the result arrays hold at the end. -/
module

public import proofs.«01_k».proof.Proof.AmaxXPoint

@[expose] public section

set_option maxRecDepth 16384

noncomputable section

namespace Cert.Proof.AmaxX

open Cert.AmaxXIdeal Cert.AmaxXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proof.AmaxXIdealRun

variable (m : (ℓ : Loc nD τ sig) → Buf (Elt Ideal) ℓ) (ρ : Dev nD → PrngReg)

/-- The operand's buffer, handed back as found. -/
theorem ret1 (c : Dev nD) (t : Fin cfg0.N) (d : Vec Ideal S3072x256 .bf16) :
    (owns (c : Thread nD τ) (ms0_1 t) fullShare (buf m c t d) : sProp (MT nD τ sig Unit (Elt Ideal) ℕ (UR sig nD τ) ℕ))
    ⊢ iprop(∃ d, owns (c : Thread nD τ) (ms0_1 t) fullShare (win0_1.fill (grid0.coords t) d (win0_1.cut (grid0.coords t) ((dats m 0 c).after 1 t)))) := by
  have e : buf m c t d = win0_1.fill (grid0.coords t) d (win0_1.cut (grid0.coords t) ((dats m 0 c).after 1 t)) := (left1 m c t d).symm
  generalize buf m c t d = X at e ⊢
  rw [e]
  iintro H
  iexists d; iexact H

set_option maxHeartbeats 3200000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, after0_0, after0_3]
  rw [show (dats m 0 c).Φ t.succ = iprop((∃ M, ⌜Held (sgn (sg m c)) M⌝ ∗ owns (c : Thread nD τ) scM0_0 fullShare M) ∗ (∃ r, prngReg c r)) from rfl]
  rw [show (dats m 0 c).Φ t.castSucc = PhiS m c t.val from rfl]
  have hN : t.val < 12 := lt_of_lt_of_eq t.isLt (show cfg0.N = 12 from N_0)
  have hx := iblk0 m c t
  by_cases hz : t.val = 0
  · have hc0 : cond0_0 (grid0.coords t) := (hcond0_0 t).mpr (by omega)
    rw [show PhiS m c t.val = PhiS m c 0 from congrArg _ hz, show PhiS m c 0 = Pipeline.ΦA spec0 c from rfl, PhiA0_eq]
    iintro ⟨⟨HS0, Hg⟩, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) scM0_0 (Memref.isWhole_whole _) hc0 (iblk m c 0 t) (buf m c t d1)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hg]
    · isplitl [HS0]
      · iexists (sout0_A_0 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d1))
        isplitr
        · ipureintro
          exact held m c t d1 hc0
        unfold owns; iexists _; isplitr
        swap; · iexact HS0
        ipureintro; exact RAs m c t d1 hc0 _
      iexact Hg
    isplitl [Ho]; · iexact Ho
    isplitl [H0]; · iexact H0
    isplitl [H1]; · iapply (ret1 m c t d1); iexact H1
    isplitl [H2]
    · iexists (out0_A_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d1))
      unfold owns; iexists _; isplitr
      swap; · iexact H2
      ipureintro
      exact (RA2 m c t d1 hc0 _).trans (LA2 m c t d1 hc0).symm
    unfold owns; iexists _; isplitr
    swap; · iexact H3
    ipureintro
    exact (RA3 m c t d1 hc0 _).trans (A3 m c t d1 hz hc0)
  · have hc0 : ¬cond0_0 (grid0.coords t) := fun h => hz (by have := (hcond0_0 t).mp h; omega)
    rw [show PhiS m c t.val = iprop((∃ M, ⌜Held (sgn (sg m c)) M⌝ ∗ owns (c : Thread nD τ) scM0_0 fullShare M) ∗ (∃ r, prngReg c r)) from by
      obtain ⟨n, hn⟩ := Nat.exists_eq_succ_of_ne_zero hz
      rw [hn]; rfl]
    simp only [before0_3 m c t hz]
    iintro ⟨⟨⟨%M, %hM, HS0⟩, Hg⟩, Ho, ⟨%d0, H0⟩, ⟨%d1, H1⟩, ⟨%d2, H2⟩, ⟨%d3, H3⟩⟩
    have hM' : Held (sgn (iblk m c 0 t)) M := by rw [hx]; exact hM
    iapply ((kernelRun0_B c (grid0.coords t) (ms0_0 t) (hs0_0 t) (ms0_1 t) (hs0_1 t) (ms0_2 t) (hs0_2 t) (ms0_3 t) (hs0_3 t) scM0_0 (Memref.isWhole_whole _) hc0 (iblk m c 0 t) (buf m c t d1) (G3 m c (t.val - 1)) M).2.2.2 Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, ⟨%e3, H3⟩, HS0⟩
    isplitl [HS0 Hg]
    · isplitl [HS0]
      · iexists M
        isplitr
        · ipureintro; exact hM
        iexact HS0
      iexact Hg
    isplitl [Ho]; · iexact Ho
    isplitl [H0]; · iexact H0
    isplitl [H1]; · iapply (ret1 m c t d1); iexact H1
    isplitl [H2]
    · iexists (out0_B_2 (F := Ideal) c (grid0.coords t) (ms0_0 t) (hs0_0 t) (ms0_1 t) (hs0_1 t) (ms0_2 t) (hs0_2 t) (ms0_3 t) (hs0_3 t) scM0_0 (Memref.isWhole_whole _) hc0 (iblk m c 0 t) (buf m c t d1) (G3 m c (t.val - 1)) M)
      unfold owns; iexists _; isplitr
      swap; · iexact H2
      ipureintro
      exact (RB2 m c t d1 hc0 _ M _).trans (LB2 m c t d1 hc0 _ M hM').symm
    unfold owns; iexists _; isplitr
    swap; · iexact H3
    ipureintro
    exact (RB3 m c t d1 hc0 _ M _).trans (B3 m c t d1 hz hc0 M hM')

/-- The body table's row is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, show PhiS m c cfg0.N = PhiS m c 12 from congrArg _ (show cfg0.N = 12 from N_0),
    show PhiS m c 12 = iprop((∃ M, ⌜Held (sgn (sg m c)) M⌝ ∗ owns (c : Thread nD τ) scM0_0 fullShare M) ∗ (∃ r, prngReg c r)) from rfl, PhiA0_eq]
  iintro ⟨⟨%M, -, HS0⟩, Hg⟩
  isplitl [HS0]
  · iexists _; iexact HS0
  iexact Hg

set_option backward.isDefEq.respectTransparency.types false in
/-- The run: every array at what the blocks written back give, every counter at zero. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The array of maxima after the run. -/
theorem maxima (c : Dev nD) : (dats m 0 c).arrAt 2 cfg0.N = Gm (sg m c) (xx m c) := by
  refine (dats m 0 c).arrAt_eq_of_covers 2 _ (by decide +kernel) fun t hf y => ?_
  rw [after0_2]
  refine (cast_eq _ _).trans ((win0_2.fill_xinj (grid0.coords t) _ (G2 m c t) y).trans ?_)
  rfl

theorem Ga_const (σ : FVec Ideal S16 .f32) (x : FVec Ideal S3072x2880 .bf16) (i j : S1x1.Idx) : Ga σ x i = Ga σ x j := rfl

/-- The largest magnitude after the run. -/
theorem amax (c : Dev nD) : (dats m 0 c).arrAt 3 cfg0.N = Ga (sg m c) (xx m c) := by
  refine (dats m 0 c).arrAt_eq_of_covers 3 _ (by decide +kernel) fun t hf y => ?_
  have ht : t.val = 11 := (by decide +kernel : ∀ t : Fin cfg0.N, (cfg0.win 3).flush t = true → t.val = 11) t hf
  rw [after0_3, G3_last m c t.val ht]
  exact (cast_eq _ _).trans (Ga_const _ _ _ _)

/-- From any memory the call ends with the two results at the formulas, its arguments unchanged, every counter at zero. -/
theorem run : θ_run defs (onTc (τ := τ) (main (F := Ideal))) ⟨m, fun _ => 0, ρ⟩ (fun r => (∀ c : Dev nD,
      r.2.mem ((c.tc : Thread nD τ).loc main_v0_0) = Gm (sg m c) (xx m c)
      ∧ r.2.mem ((c.tc : Thread nD τ).loc main_v0_1) = Ga (sg m c) (xx m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 2).trans (maxima m c), ((h.1 c).1 3).trans (amax m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (run_main m ρ)

end Cert.Proof.AmaxX

end
-- ==== Proof.AmaxXRef.lean ====
/- THE BLOCK MAXIMA OF x, THE REFERENCE. What the plain program leaves in its two result arrays: the same closed formulas. -/
module

public import proofs.«01_k».proof.Proof.AmaxXBlock
public import proofs.«01_k».proof.Proof.Gen.AmaxXRefIdeal.Run
public import Idealize.ShloMosaic.Lib.Pointwise

@[expose] public section

set_option maxRecDepth 16384

noncomputable section

namespace Cert.Proof.AmaxXRef

open Cert.AmaxXRefIdeal Cert.AmaxXRefIdeal.Facts₀ Idealize.ShloMosaic Cert.Proof.Hadamard
open Cert.Proof.AmaxX (rot Gm Ga)

/-- The rotated operand's magnitudes as the program composes them. -/
def magnitudes (σ : FVec Ideal S16 .f32) (x : FVec Ideal S3072x2880 .bf16) : FVec Ideal S192x16x2880 .f32 :=
  Host.absf (transpose S192x16x2880 [0, 2, 1] (Host.dotGeneral dot_S192x16x2880_S16x16_S192x2880x16_1_1_02_0_n_n (some .fp32) (shapeCast S192x16x2880 (extf .f32 x bitsLt_bf16_f32) shapeCasts_S3072x2880_S192x16x2880) (mulf (mulf (sitofp .f32 (subi (broadcastInDim S16x16 ![] bcast_S_S16x16 (constantI S_ 32 1#32)) (muli (broadcastInDim S16x16 ![] bcast_S_S16x16 (constantI S_ 32 2#32)) (andi (ctpop (andi (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0))))) (broadcastInDim S16x16 ![] bcast_S_S16x16 (constantI S_ 32 1#32)))))) (broadcastInDim S16x16 ![0, 1] bcast_S1x16_S16x16_0_1 (broadcastInDim S1x16 ![1] bcast_S16_S1x16_1 σ))) (broadcastInDim S16x16 ![] bcast_S_S16x16 (constant S_ .f32 0x3E800000#32)))) transposes_S192x2880x16_S192x16x2880_0_2_1)

/-- Their maxima over each group. -/
def groups (σ : FVec Ideal S16 .f32) (x : FVec Ideal S3072x2880 .bf16) : FVec Ideal S192x2880 .f32 :=
  Host.reduce FloatOps.maximumf (magnitudes σ x) (constant S_ .f32 0xFF800000#32) reducesTo_S192x16x2880_S192x2880_d1 h_S_

/-- The largest of those. -/
def all (σ : FVec Ideal S16 .f32) (x : FVec Ideal S3072x2880 .bf16) : FVec Ideal S1x1 .f32 :=
  shapeCast _ (Host.reduce FloatOps.maximumf (groups σ x) (constant S_ .f32 0xFF800000#32) reducesTo_S192x2880_S_d0_1 h_S_) shapeCasts_S_S1x1

theorem magnitudes_at (σ : FVec Ideal S16 .f32) (x : FVec Ideal S3072x2880 .bf16) (g : Fin 192) (i : Fin 16) (k : Fin 2880) :
    magnitudes σ x (ix3 g i k) = FloatOps.absf (F := Ideal) (φ := .f32) (rot σ x g i k) := by
  pointwise [magnitudes, rot, had]

theorem groups_eq (σ : FVec Ideal S16 .f32) (x : FVec Ideal S3072x2880 .bf16) : groups σ x = Gm σ x := by
  funext y
  obtain ⟨g, k, rfl⟩ : ∃ (g : Fin 192) (k : Fin 2880), y = ix2 g k := ⟨y 0, y 1, by funext a; fin_cases a <;> rfl⟩
  have h : ∀ V : FVec Ideal S192x16x2880 .f32, Host.reduce FloatOps.maximumf V (constant S_ .f32 0xFF800000#32)
      reducesTo_S192x16x2880_S192x2880_d1 h_S_ (ix2 g k)
      = Finset.fold max (Ideal.ofBits FTy.f32 4286578688#32) (fun i => V (ix3 g i k)) Finset.univ := by
    intro V
    pointwise []
  refine (h _).trans ?_
  simp only [magnitudes_at]
  rfl

theorem all_eq (σ : FVec Ideal S16 .f32) (x : FVec Ideal S3072x2880 .bf16) : all σ x = Ga σ x := by
  funext y
  have h : ∀ V : FVec Ideal S192x2880 .f32, (shapeCast S1x1 (Host.reduce FloatOps.maximumf V (constant S_ .f32 0xFF800000#32)
      reducesTo_S192x2880_S_d0_1 h_S_) shapeCasts_S_S1x1 : FVec Ideal S1x1 .f32) y
      = Finset.fold max (Ideal.ofBits FTy.f32 4286578688#32) (fun p : Fin 192 × Fin 2880 => V (ix2 p.1 p.2)) Finset.univ := by
    intro V
    pointwise []
  refine (h _).trans ?_
  rw [groups_eq]
  rfl

end Cert.Proof.AmaxXRef

end
-- ==== Proof.lean ====
module

public import proofs.«01_k».proof.Defs
public import proofs.«01_k».proof.Proof.Gen.Product
public import proofs.«01_k».proof.Proof.Gen.Product.Skeleton
public import proofs.«01_k».proof.Proof.Gen.Product.Launch
public import proofs.«01_k».proof.Proof.Gen.Product.Points
public import proofs.«01_k».proof.Proof.Gen.Product.Frame
public import proofs.«01_k».proof.Proof.Gen.ProductIdeal
public import proofs.«01_k».proof.Proof.Gen.ProductIdeal.Skeleton
public import proofs.«01_k».proof.Proof.Gen.ProductIdeal.Launch
public import proofs.«01_k».proof.Proof.Gen.ProductIdeal.Points
public import proofs.«01_k».proof.Proof.Gen.ProductIdeal.Frame
public import proofs.«01_k».proof.Proof.Gen.ProductRefIdeal
public import proofs.«01_k».proof.Proof.Gen.ProductIdeal.Value
public import proofs.«01_k».proof.Proof.Gen.ProductRefIdeal.Run
public import proofs.«01_k».proof.Proof.Gen.Xq
public import proofs.«01_k».proof.Proof.Gen.XqIdeal
public import proofs.«01_k».proof.Proof.Gen.XqRefIdeal
public import proofs.«01_k».proof.Proof.Gen.AmaxDy
public import proofs.«01_k».proof.Proof.Gen.AmaxDyIdeal
public import proofs.«01_k».proof.Proof.Gen.AmaxDyRefIdeal
public import proofs.«01_k».proof.Proof.Gen.Xq.Frame
public import proofs.«01_k».proof.Proof.Gen.XqIdeal.Frame
public import proofs.«01_k».proof.Proof.Gen.XqRefIdeal.Frame
public import proofs.«01_k».proof.Proof.Gen.AmaxDy.Frame
public import proofs.«01_k».proof.Proof.Gen.AmaxDyIdeal.Frame
public import proofs.«01_k».proof.Proof.Gen.XqIdeal.Value
public import proofs.«01_k».proof.Proof.Gen.XqRefIdeal.Value
public import proofs.«01_k».proof.Proof.Gen.AmaxDyIdeal.Value
public import proofs.«01_k».proof.Proof.Gen.AmaxDyRefIdeal.Run
public import proofs.«01_k».proof.Proof.Gen.Dq
public import proofs.«01_k».proof.Proof.Gen.Dq.Frame
public import proofs.«01_k».proof.Proof.Gen.Dq.Value
public import proofs.«01_k».proof.Proof.Gen.DqRef
public import proofs.«01_k».proof.Proof.Gen.DqRef.Frame
public import proofs.«01_k».proof.Proof.Gen.DqRef.Value
public import proofs.«01_k».proof.Proof.Gen.AmaxX
public import proofs.«01_k».proof.Proof.Gen.AmaxX.Launch
public import proofs.«01_k».proof.Proof.Gen.AmaxX.Skeleton
public import proofs.«01_k».proof.Proof.Gen.AmaxXIdeal
public import proofs.«01_k».proof.Proof.Gen.AmaxXIdeal.Launch
public import proofs.«01_k».proof.Proof.Gen.AmaxXIdeal.Skeleton
public import proofs.«01_k».proof.Proof.Gen.AmaxXIdeal.Points
public import proofs.«01_k».proof.Proof.Gen.AmaxXRefIdeal
public import proofs.«01_k».proof.Proof.Gen.AmaxXRefIdeal.Run
public import proofs.«01_k».proof.Proof.Product
public import proofs.«01_k».proof.Proof.Xq
public import proofs.«01_k».proof.Proof.XqRef
public import proofs.«01_k».proof.Proof.AmaxDyAll
public import proofs.«01_k».proof.Proof.AmaxDyRef
public import proofs.«01_k».proof.Proof.Dq
public import proofs.«01_k».proof.Proof.DqRef
public import proofs.«01_k».proof.Proof.AmaxXFrame
public import proofs.«01_k».proof.Proof.AmaxXIdealFrame
public import proofs.«01_k».proof.Proof.AmaxXRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's product and the reference's from equal arguments: equal results over the extended reals. -/
theorem algebraic_product : Cert.algebraic_ProductIdeal_ProductRefIdeal := by
  intro m ρ m' ρ' _ hag
  refine ⟨fun c => Product.G (m ((c.tc : Thread Cert.ProductIdeal.nD Cert.ProductIdeal.τ).loc Cert.ProductIdeal.main_arg0)) (m ((c.tc : Thread Cert.ProductIdeal.nD Cert.ProductIdeal.τ).loc Cert.ProductIdeal.main_arg1))
    (m ((c.tc : Thread Cert.ProductIdeal.nD Cert.ProductIdeal.τ).loc Cert.ProductIdeal.main_arg2)) (m ((c.tc : Thread Cert.ProductIdeal.nD Cert.ProductIdeal.τ).loc Cert.ProductIdeal.main_arg3)),
    (θ_run _ _ _).mono (fun r h c => ⟨(h c).1.trans (Product.arr m c), (h c).2⟩) (Cert.ProductIdeal.Value.run_blocks (F := Ideal) m ρ), ?_⟩
  refine (θ_run _ _ _).mono (fun r h c => ⟨(h c).1.trans ?_, (h c).2⟩) (Cert.ProductRefIdeal.Value.run (F := Ideal) m' ρ')
  rw [(hag c).1, (hag c).2.1, (hag c).2.2.1, (hag c).2.2.2]
  exact (Product.ref_eq _ _ _ _).symm

/-- The product's reference terminates, leaves its arguments alone and ends with every semaphore at zero. -/
theorem frame_product_ref : Cert.quiescent_ProductRefIdeal := fun m ρ _ =>
  (θ_run _ _ _).mono (fun r h => ⟨fun c => (h c).2, Idealize.ShloMosaic.sem_eq_zero_of_no_sems (by decide) r.2⟩)
    (Cert.ProductRefIdeal.Value.run (F := Ideal) m ρ)

/-- The quantiser and its reference from equal arguments: equal results over the extended reals. -/
theorem algebraic_xq : Cert.algebraic_XqIdeal_XqRefIdeal := by
  intro m ρ m' ρ' _ hag
  refine ⟨fun c => Xq.Gc (m ((c.tc : Thread Cert.XqIdeal.nD Cert.XqIdeal.τ).loc Cert.XqIdeal.main_arg0)) (m ((c.tc : Thread Cert.XqIdeal.nD Cert.XqIdeal.τ).loc Cert.XqIdeal.main_arg1))
      (m ((c.tc : Thread Cert.XqIdeal.nD Cert.XqIdeal.τ).loc Cert.XqIdeal.main_arg2)) (m ((c.tc : Thread Cert.XqIdeal.nD Cert.XqIdeal.τ).loc Cert.XqIdeal.main_arg3)),
    fun c => Xq.Gb (m ((c.tc : Thread Cert.XqIdeal.nD Cert.XqIdeal.τ).loc Cert.XqIdeal.main_arg1)) (m ((c.tc : Thread Cert.XqIdeal.nD Cert.XqIdeal.τ).loc Cert.XqIdeal.main_arg3)),
    fun c => Xq.Gs (m ((c.tc : Thread Cert.XqIdeal.nD Cert.XqIdeal.τ).loc Cert.XqIdeal.main_arg1)),
    fun c => Xq.Gt (m ((c.tc : Thread Cert.XqIdeal.nD Cert.XqIdeal.τ).loc Cert.XqIdeal.main_arg0)) (m ((c.tc : Thread Cert.XqIdeal.nD Cert.XqIdeal.τ).loc Cert.XqIdeal.main_arg1))
      (m ((c.tc : Thread Cert.XqIdeal.nD Cert.XqIdeal.τ).loc Cert.XqIdeal.main_arg2)) (m ((c.tc : Thread Cert.XqIdeal.nD Cert.XqIdeal.τ).loc Cert.XqIdeal.main_arg3)),
    (θ_run _ _ _).mono (fun r h c => ⟨(h c).1.trans (Xq.codes m c), (h c).2.1.trans (Xq.scales m c), (h c).2.2.1.trans (Xq.gscale m c),
      (h c).2.2.2.1.trans (Xq.dequantised m c), (h c).2.2.2.2⟩) (Cert.XqIdeal.Value.run_blocks (F := Ideal) m ρ), ?_⟩
  refine (θ_run _ _ _).mono (fun r h c => ⟨(h c).1.trans ((XqRef.codes m' c).trans ?_), (h c).2.1.trans ((XqRef.scales m' c).trans ?_),
      (h c).2.2.1.trans ((XqRef.gscale m' c).trans ?_), (h c).2.2.2.1.trans ((XqRef.dequantised m' c).trans ?_), (h c).2.2.2.2⟩)
      (Cert.XqRefIdeal.Value.run_blocks (F := Ideal) m' ρ')
  · rw [(hag c).1, (hag c).2.1, (hag c).2.2.1, (hag c).2.2.2]
  · rw [(hag c).2.1, (hag c).2.2.2]
  · rw [(hag c).2.1]
  · rw [(hag c).1, (hag c).2.1, (hag c).2.2.1, (hag c).2.2.2]

/-- The block maxima of dy and their reference from equal arguments: equal results over the extended reals. -/
theorem algebraic_amax_dy : Cert.algebraic_AmaxDyIdeal_AmaxDyRefIdeal := by
  intro m ρ m' ρ' _ hag
  refine ⟨fun c => AmaxDy.Gm (m ((c.tc : Thread Cert.AmaxDyIdeal.nD Cert.AmaxDyIdeal.τ).loc Cert.AmaxDyIdeal.main_arg0)) (m ((c.tc : Thread Cert.AmaxDyIdeal.nD Cert.AmaxDyIdeal.τ).loc Cert.AmaxDyIdeal.main_arg1)),
    fun c => AmaxDy.Ga (m ((c.tc : Thread Cert.AmaxDyIdeal.nD Cert.AmaxDyIdeal.τ).loc Cert.AmaxDyIdeal.main_arg0)) (m ((c.tc : Thread Cert.AmaxDyIdeal.nD Cert.AmaxDyIdeal.τ).loc Cert.AmaxDyIdeal.main_arg1)),
    (θ_run _ _ _).mono (fun r h c => ⟨(h c).1.trans (AmaxDy.maxima m c), (h c).2.1.trans (AmaxDy.amax m c), (h c).2.2⟩)
      (Cert.AmaxDyIdeal.Value.run_blocks (F := Ideal) m ρ), ?_⟩
  refine (θ_run _ _ _).mono (fun r h c => ⟨(h c).1.trans ((AmaxDyRef.groups_eq _ _).trans ?_), (h c).2.1.trans ((AmaxDyRef.all_eq _ _).trans ?_),
      (h c).2.2⟩) (Cert.AmaxDyRefIdeal.Value.run (F := Ideal) m' ρ')
  · rw [(hag c).1, (hag c).2]
  · rw [(hag c).1, (hag c).2]

/-- The reference of the block maxima terminates, leaves its arguments alone and ends with every semaphore at zero. -/
theorem frame_amax_dy_ref : Cert.quiescent_AmaxDyRefIdeal := fun m ρ _ =>
  (θ_run _ _ _).mono (fun r h => ⟨fun c => (h c).2.2, Idealize.ShloMosaic.sem_eq_zero_of_no_sems (by decide) r.2⟩)
    (Cert.AmaxDyRefIdeal.Value.run (F := Ideal) m ρ)

/-- The scales of dy and their reference from equal arguments: the same bits. -/
theorem bitexact_dq : Cert.bitexact_Dq_DqRef := by
  intro m ρ m' ρ' _ hag
  refine ⟨fun c => DqRef.Gb (m ((c.tc : Thread Cert.Dq.nD Cert.Dq.τ).loc Cert.Dq.main_arg1)) (m ((c.tc : Thread Cert.Dq.nD Cert.Dq.τ).loc Cert.Dq.main_arg4)),
    fun c => DqRef.Gs (m ((c.tc : Thread Cert.Dq.nD Cert.Dq.τ).loc Cert.Dq.main_arg1)),
    (θ_run _ _ _).mono (fun r h c => ⟨(h c).2.1.trans (Dq.scales m c), (h c).2.2.1.trans (Dq.gscale m c), (h c).2.2.2.2⟩)
      (Cert.Dq.Value.run_blocks (F := Bits) m ρ), ?_⟩
  refine (θ_run _ _ _).mono (fun r h c => ⟨(h c).1.trans ((DqRef.scales m' c).trans ?_), (h c).2.1.trans ((DqRef.gscale m' c).trans ?_), (h c).2.2⟩)
      (Cert.DqRef.Value.run_blocks (F := Bits) m' ρ')
  · rw [(hag c).2.1, (hag c).2.2.2.2]
  · rw [(hag c).2.1]

/-- The block maxima of x and their reference from equal arguments: equal results over the extended reals. -/
theorem algebraic_amax_x : Cert.algebraic_AmaxXIdeal_AmaxXRefIdeal := by
  intro m ρ m' ρ' _ hag
  refine ⟨fun c => AmaxX.Gm (m ((c.tc : Thread Cert.AmaxXIdeal.nD Cert.AmaxXIdeal.τ).loc Cert.AmaxXIdeal.main_arg0)) (m ((c.tc : Thread Cert.AmaxXIdeal.nD Cert.AmaxXIdeal.τ).loc Cert.AmaxXIdeal.main_arg1)),
    fun c => AmaxX.Ga (m ((c.tc : Thread Cert.AmaxXIdeal.nD Cert.AmaxXIdeal.τ).loc Cert.AmaxXIdeal.main_arg0)) (m ((c.tc : Thread Cert.AmaxXIdeal.nD Cert.AmaxXIdeal.τ).loc Cert.AmaxXIdeal.main_arg1)),
    (θ_run _ _ _).mono (fun _ h => h.1) (AmaxX.run m ρ), ?_⟩
  refine (θ_run _ _ _).mono (fun r h c => ⟨(h c).1.trans ((AmaxXRef.groups_eq _ _).trans ?_), (h c).2.1.trans ((AmaxXRef.all_eq _ _).trans ?_),
      (h c).2.2⟩) (Cert.AmaxXRefIdeal.Value.run (F := Ideal) m' ρ')
  · rw [(hag c).1, (hag c).2]
  · rw [(hag c).1, (hag c).2]

/-- The block maxima of x over the reals: the call terminates, leaves its arguments alone and ends with every semaphore at zero. -/
theorem frame_amax_x_ideal : Cert.quiescent_AmaxXIdeal := fun m ρ _ =>
  (θ_run _ _ _).mono (fun _ h => ⟨fun c => (h.1 c).2.2, h.2⟩) (AmaxX.run m ρ)

/-- The reference of x's block maxima terminates, leaves its arguments alone and ends with every semaphore at zero. -/
theorem frame_amax_x_ref : Cert.quiescent_AmaxXRefIdeal := fun m ρ _ =>
  (θ_run _ _ _).mono (fun r h => ⟨fun c => (h c).2.2, Idealize.ShloMosaic.sem_eq_zero_of_no_sems (by decide) r.2⟩)
    (Cert.AmaxXRefIdeal.Value.run (F := Ideal) m ρ)

theorem claim : Cert.Claim := ⟨Cert.Product.Gen.facts, Cert.ProductIdeal.Gen.facts, Cert.ProductRefIdeal.Gen.facts,
  Cert.Xq.Gen.facts, Cert.XqIdeal.Gen.facts, Cert.XqRefIdeal.Gen.facts,
  Cert.AmaxDy.Gen.facts, Cert.AmaxDyIdeal.Gen.facts, Cert.AmaxDyRefIdeal.Gen.facts,
  Cert.Dq.Gen.facts, Cert.DqRef.Gen.facts,
  Cert.AmaxX.Gen.facts, Cert.AmaxXIdeal.Gen.facts, Cert.AmaxXRefIdeal.Gen.facts,
  fun m ρ _ => Cert.Product.Gen.frame m ρ, fun m ρ _ => Cert.ProductIdeal.Gen.frame m ρ, frame_product_ref,
  fun m ρ _ => Cert.Xq.Gen.frame m ρ, fun m ρ _ => Cert.XqIdeal.Gen.frame m ρ, fun m ρ _ => Cert.XqRefIdeal.Gen.frame m ρ,
  fun m ρ _ => Cert.AmaxDy.Gen.frame m ρ, fun m ρ _ => Cert.AmaxDyIdeal.Gen.frame m ρ, frame_amax_dy_ref,
  fun m ρ _ => Cert.Dq.Gen.frame m ρ, fun m ρ _ => Cert.DqRef.Gen.frame m ρ,
  fun m ρ _ => AmaxXRun.frame (F := Bits) m ρ, frame_amax_x_ideal, frame_amax_x_ref,
  trivial, algebraic_product, trivial, algebraic_xq, trivial, algebraic_amax_dy, bitexact_dq, trivial, algebraic_amax_x⟩

end Cert.Proof

end
